-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1048576 : Shape := ⟨1, ![1048576]⟩
abbrev S16 : Shape := ⟨1, ![16]⟩
abbrev S128x16 : Shape := ⟨2, ![128, 16]⟩
abbrev S32768 : Shape := ⟨1, ![32768]⟩
abbrev S4x16 : Shape := ⟨2, ![4, 16]⟩
abbrev S_ : Shape := ⟨0, ![]⟩
abbrev S1x16 : Shape := ⟨2, ![1, 16]⟩
abbrev S4 : Shape := ⟨1, ![4]⟩

abbrev nBuf : Table → Nat
  | .hbm => 5
  | .local .scVector .vmem => 3
  | _ => 0

abbrev bufTy : (tb : Table) → Fin (nBuf tb) → BufTy
  | .hbm, ⟨0, _⟩ => ⟨S1048576, .f32⟩
  | .hbm, ⟨1, _⟩ => ⟨S1048576, .f32⟩
  | .hbm, ⟨2, _⟩ => ⟨S16, .f32⟩
  | .hbm, ⟨3, _⟩ => ⟨S128x16, .f32⟩
  | .hbm, ⟨4, _⟩ => ⟨S4, .f32⟩
  | .local .scVector .vmem, ⟨0, _⟩ => ⟨S32768, .f32⟩
  | .local .scVector .vmem, ⟨1, _⟩ => ⟨S16, .f32⟩
  | .local .scVector .vmem, ⟨2, _⟩ => ⟨S4x16, .f32⟩
  | _, _ => ⟨S1048576, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]
@[reducible] def k0_t1_loop : Scf.Loop 32 :=
  let c0_i32 : BitVec 32 := 0#32
  let c2048_i32 : BitVec 32 := 2048#32
  let v5 : BitVec 32 := Scalar.addi c0_i32 c2048_i32
  let c1_i32 : BitVec 32 := 1#32
  ⟨c0_i32, v5, c1_i32⟩
def k0_off2 (k0_t1 : Fin k0_t1_loop.trips) : Fin 1 → Nat :=
  let c0_i32 : BitVec 32 := 0#32
  let c1_i32 : BitVec 32 := 1#32
  let arg9 : BitVec 32 := Scf.iv c0_i32 c1_i32 k0_t1
  let c16_i32 : BitVec 32 := 16#32
  let v53 : BitVec 32 := Scalar.muli arg9 c16_i32
  let v54 : Index := Scalar.indexCast v53
  ![v54.toNat]
@[reducible] def k0_t2_loop : Scf.Loop 32 :=
  let c0_i32_4 : BitVec 32 := 0#32
  let c2048_i32_5 : BitVec 32 := 2048#32
  let v9 : BitVec 32 := Scalar.addi c0_i32_4 c2048_i32_5
  let c1_i32_6 : BitVec 32 := 1#32
  ⟨c0_i32_4, v9, c1_i32_6⟩
def k0_off3 (k0_t2 : Fin k0_t2_loop.trips) : Fin 1 → Nat :=
  let c0_i32_4 : BitVec 32 := 0#32
  let c1_i32_6 : BitVec 32 := 1#32
  let arg9 : BitVec 32 := Scf.iv c0_i32_4 c1_i32_6 k0_t2
  let c16_i32 : BitVec 32 := 16#32
  let v53 : BitVec 32 := Scalar.muli arg9 c16_i32
  let v54 : Index := Scalar.indexCast v53
  ![v54.toNat]
def k0_off4 (i : grid0.Coords) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v27 : BitVec 32 := Scalar.muli c4_i32 v1
  let c0_i32_28_r2 : BitVec 32 := 0#32
  ![v27.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1048576 : Shape := ⟨1, ![1048576]⟩
abbrev S1048570 : Shape := ⟨1, ![1048570]⟩
abbrev S1048570x1 : Shape := ⟨2, ![1048570, 1]⟩
abbrev S5 : Shape := ⟨1, ![5]⟩
abbrev S1x5 : Shape := ⟨2, ![1, 5]⟩
abbrev S1048570x5 : Shape := ⟨2, ![1048570, 5]⟩
abbrev S_ : Shape := ⟨0, ![]⟩
abbrev S1048570x5x1 : Shape := ⟨3, ![1048570, 5, 1]⟩
abbrev S9 : Shape := ⟨1, ![9]⟩
abbrev S1 : Shape := ⟨1, ![1]⟩
abbrev S10 : Shape := ⟨1, ![10]⟩
abbrev S1x1x10 : Shape := ⟨3, ![1, 1, 10]⟩
abbrev S1048570x5x10 : Shape := ⟨3, ![1048570, 5, 10]⟩
abbrev S1x10 : Shape := ⟨2, ![1, 10]⟩
abbrev S1048570x10 : Shape := ⟨2, ![1048570, 10]⟩
abbrev S4 : Shape := ⟨1, ![4]⟩
abbrev S32x2048x16 : Shape := ⟨3, ![32, 2048, 16]⟩
abbrev S32x16 : Shape := ⟨2, ![32, 16]⟩
abbrev S32x1x16 : Shape := ⟨3, ![32, 1, 16]⟩
abbrev S32x4x16 : Shape := ⟨3, ![32, 4, 16]⟩
abbrev S128x16 : Shape := ⟨2, ![128, 16]⟩

abbrev nBuf : Space → Nat
  | .hbm => 228
  | .vmem => 0
  | .smem => 0
  | _ => 0

abbrev hbmTy0_0 (i : Nat) : BufTy := match i % 128 with
  | 0 => ⟨S1048576, .f32⟩
  | 1 => ⟨S1048576, .f32⟩
  | 2 => ⟨S1048570, .i32⟩
  | 3 => ⟨S1048570x1, .i32⟩
  | 4 => ⟨S5, .i32⟩
  | 5 => ⟨S1x5, .i32⟩
  | 6 => ⟨S1048570x5, .i32⟩
  | 7 => ⟨S1048570x5, .i32⟩
  | 8 => ⟨S1048570x5, .i32⟩
  | 9 => ⟨S_, .i32⟩
  | 10 => ⟨S1048570x5, .i32⟩
  | 11 => ⟨S1048570x5, .i1⟩
  | 12 => ⟨S_, .i32⟩
  | 13 => ⟨S1048570x5, .i32⟩
  | 14 => ⟨S1048570x5, .i32⟩
  | 15 => ⟨S1048570x5, .i32⟩
  | 16 => ⟨S1048570x5x1, .i32⟩
  | 17 => ⟨S1048570x5, .f32⟩
  | 18 => ⟨S_, .i32⟩
  | 19 => ⟨S1048570x5, .i32⟩
  | 20 => ⟨S1048570x5, .i1⟩
  | 21 => ⟨S_, .i32⟩
  | 22 => ⟨S1048570x5, .i32⟩
  | 23 => ⟨S1048570x5, .i32⟩
  | 24 => ⟨S1048570x5, .i32⟩
  | 25 => ⟨S1048570x5x1, .i32⟩
  | 26 => ⟨S1048570x5, .f32⟩
  | 27 => ⟨S1048570, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S9, .f32⟩
  | 36 => ⟨S_, .f32⟩
  | 37 => ⟨S9, .f32⟩
  | 38 => ⟨S9, .f32⟩
  | 39 => ⟨S1, .f32⟩
  | 40 => ⟨S_, .f32⟩
  | 41 => ⟨S9, .f32⟩
  | 42 => ⟨S9, .f32⟩
  | 43 => ⟨S9, .f32⟩
  | 44 => ⟨S9, .f32⟩
  | 45 => ⟨S1, .f32⟩
  | 46 => ⟨S9, .f32⟩
  | 47 => ⟨S9, .f32⟩
  | 48 => ⟨S9, .f32⟩
  | 49 => ⟨S1, .f32⟩
  | 50 => ⟨S10, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S9, .f32⟩
  | 59 => ⟨S_, .f32⟩
  | 60 => ⟨S9, .f32⟩
  | 61 => ⟨S9, .f32⟩
  | 62 => ⟨S1, .f32⟩
  | 63 => ⟨S_, .f32⟩
  | 64 => ⟨S9, .f32⟩
  | 65 => ⟨S9, .f32⟩
  | 66 => ⟨S9, .f32⟩
  | 67 => ⟨S9, .f32⟩
  | 68 => ⟨S1, .f32⟩
  | 69 => ⟨S9, .f32⟩
  | 70 => ⟨S9, .f32⟩
  | 71 => ⟨S9, .f32⟩
  | 72 => ⟨S1, .f32⟩
  | 73 => ⟨S10, .f32⟩
  | 74 => ⟨S1048570x5x1, .f32⟩
  | 75 => ⟨S1x1x10, .f32⟩
  | 76 => ⟨S1048570x5x10, .f32⟩
  | 77 => ⟨S1048570x5x10, .f32⟩
  | 78 => ⟨S1048570x5x10, .i1⟩
  | 79 => ⟨S1048570x5x10, .i32⟩
  | 80 => ⟨S_, .i32⟩
  | 81 => ⟨S1048570x5, .i32⟩
  | 82 => ⟨S1048570x5x1, .f32⟩
  | 83 => ⟨S1x1x10, .f32⟩
  | 84 => ⟨S1048570x5x10, .f32⟩
  | 85 => ⟨S1048570x5x10, .f32⟩
  | 86 => ⟨S1048570x5x10, .i1⟩
  | 87 => ⟨S1048570x5x10, .i32⟩
  | 88 => ⟨S_, .i32⟩
  | 89 => ⟨S1048570x5, .i32⟩
  | 90 => ⟨S1048570x1, .f32⟩
  | 91 => ⟨S1x10, .f32⟩
  | 92 => ⟨S1048570x10, .f32⟩
  | 93 => ⟨S1048570x10, .f32⟩
  | 94 => ⟨S1048570x10, .i1⟩
  | 95 => ⟨S1048570x10, .i32⟩
  | 96 => ⟨S_, .i32⟩
  | 97 => ⟨S1048570, .i32⟩
  | 98 => ⟨S1048570x1, .i32⟩
  | 99 => ⟨S1048570, .i32⟩
  | 100 => ⟨S1048570x1, .i32⟩
  | 101 => ⟨S5, .i32⟩
  | 102 => ⟨S1x5, .i32⟩
  | 103 => ⟨S1048570x5, .i32⟩
  | 104 => ⟨S1048570x5, .i32⟩
  | 105 => ⟨S1048570x5, .i32⟩
  | 106 => ⟨S_, .i32⟩
  | 107 => ⟨S1048570x5, .i32⟩
  | 108 => ⟨S1048570x5, .i1⟩
  | 109 => ⟨S_, .i32⟩
  | 110 => ⟨S1048570x5, .i32⟩
  | 111 => ⟨S1048570x5, .i32⟩
  | 112 => ⟨S1048570x5, .i32⟩
  | 113 => ⟨S1048570x5x1, .i32⟩
  | 114 => ⟨S1048570x5, .f32⟩
  | 115 => ⟨S_, .i32⟩
  | 116 => ⟨S1048570x5, .i32⟩
  | 117 => ⟨S1048570x5, .i1⟩
  | 118 => ⟨S_, .i32⟩
  | 119 => ⟨S1048570x5, .i32⟩
  | 120 => ⟨S1048570x5, .i32⟩
  | 121 => ⟨S1048570x5, .i32⟩
  | 122 => ⟨S1048570x5x1, .i32⟩
  | 123 => ⟨S1048570x5, .f32⟩
  | 124 => ⟨S1048570, .f32⟩
  | 125 => ⟨S_, .f32⟩
  | 126 => ⟨S_, .f32⟩
  | 127 => ⟨S_, .f32⟩
  | _ => ⟨S1048576, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S9, .f32⟩
  | 5 => ⟨S_, .f32⟩
  | 6 => ⟨S9, .f32⟩
  | 7 => ⟨S9, .f32⟩
  | 8 => ⟨S1, .f32⟩
  | 9 => ⟨S_, .f32⟩
  | 10 => ⟨S9, .f32⟩
  | 11 => ⟨S9, .f32⟩
  | 12 => ⟨S9, .f32⟩
  | 13 => ⟨S9, .f32⟩
  | 14 => ⟨S1, .f32⟩
  | 15 => ⟨S9, .f32⟩
  | 16 => ⟨S9, .f32⟩
  | 17 => ⟨S9, .f32⟩
  | 18 => ⟨S1, .f32⟩
  | 19 => ⟨S10, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S9, .f32⟩
  | 28 => ⟨S_, .f32⟩
  | 29 => ⟨S9, .f32⟩
  | 30 => ⟨S9, .f32⟩
  | 31 => ⟨S1, .f32⟩
  | 32 => ⟨S_, .f32⟩
  | 33 => ⟨S9, .f32⟩
  | 34 => ⟨S9, .f32⟩
  | 35 => ⟨S9, .f32⟩
  | 36 => ⟨S9, .f32⟩
  | 37 => ⟨S1, .f32⟩
  | 38 => ⟨S9, .f32⟩
  | 39 => ⟨S9, .f32⟩
  | 40 => ⟨S9, .f32⟩
  | 41 => ⟨S1, .f32⟩
  | 42 => ⟨S10, .f32⟩
  | 43 => ⟨S1048570x5x1, .f32⟩
  | 44 => ⟨S1x1x10, .f32⟩
  | 45 => ⟨S1048570x5x10, .f32⟩
  | 46 => ⟨S1048570x5x10, .f32⟩
  | 47 => ⟨S1048570x5x10, .i1⟩
  | 48 => ⟨S1048570x5x10, .i32⟩
  | 49 => ⟨S_, .i32⟩
  | 50 => ⟨S1048570x5, .i32⟩
  | 51 => ⟨S1048570x5x1, .f32⟩
  | 52 => ⟨S1x1x10, .f32⟩
  | 53 => ⟨S1048570x5x10, .f32⟩
  | 54 => ⟨S1048570x5x10, .f32⟩
  | 55 => ⟨S1048570x5x10, .i1⟩
  | 56 => ⟨S1048570x5x10, .i32⟩
  | 57 => ⟨S_, .i32⟩
  | 58 => ⟨S1048570x5, .i32⟩
  | 59 => ⟨S1048570x1, .f32⟩
  | 60 => ⟨S1x10, .f32⟩
  | 61 => ⟨S1048570x10, .f32⟩
  | 62 => ⟨S1048570x10, .f32⟩
  | 63 => ⟨S1048570x10, .i1⟩
  | 64 => ⟨S1048570x10, .i32⟩
  | 65 => ⟨S_, .i32⟩
  | 66 => ⟨S1048570, .i32⟩
  | 67 => ⟨S1048570x1, .i32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S1, .f32⟩
  | 80 => ⟨S1, .f32⟩
  | 81 => ⟨S1, .f32⟩
  | 82 => ⟨S1, .f32⟩
  | 83 => ⟨S4, .f32⟩
  | 84 => ⟨S32x2048x16, .f32⟩
  | 85 => ⟨S_, .f32⟩
  | 86 => ⟨S32x16, .f32⟩
  | 87 => ⟨S_, .f32⟩
  | 88 => ⟨S32x16, .f32⟩
  | 89 => ⟨S32x2048x16, .f32⟩
  | 90 => ⟨S_, .f32⟩
  | 91 => ⟨S32x16, .f32⟩
  | 92 => ⟨S_, .f32⟩
  | 93 => ⟨S32x16, .f32⟩
  | 94 => ⟨S32x1x16, .f32⟩
  | 95 => ⟨S32x1x16, .f32⟩
  | 96 => ⟨S32x1x16, .f32⟩
  | 97 => ⟨S32x1x16, .f32⟩
  | 98 => ⟨S32x4x16, .f32⟩
  | 99 => ⟨S128x16, .f32⟩
  | _ => ⟨S1048576, .f32⟩

abbrev hbmTy (i : Nat) : BufTy := match i / 128 with
  | 0 => hbmTy0_0 i
  | 1 => hbmTy0_1 i
  | _ => ⟨S1048576, .f32⟩

abbrev bufTy : (tb : Table) → Fin (tcTables nBuf tb) → BufTy
  | .hbm, ⟨i, _⟩ => hbmTy i
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_call0_v0 : Ref sig .tc := ⟨.hbm, 32, rfl⟩
abbrev main_call0_cst : Ref sig .tc := ⟨.hbm, 33, rfl⟩
abbrev main_call0_v1 : Ref sig .tc := ⟨.hbm, 34, rfl⟩
abbrev main_call0_v2 : Ref sig .tc := ⟨.hbm, 35, rfl⟩
abbrev main_call0_cst_0 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v24 : Ref sig .tc := ⟨.hbm, 50, rfl⟩
abbrev main_cst_4 : Ref sig .tc := ⟨.hbm, 51, rfl⟩
abbrev main_v25 : Ref sig .tc := ⟨.hbm, 52, rfl⟩
abbrev main_cst_5 : Ref sig .tc := ⟨.hbm, 53, rfl⟩
abbrev main_v26 : Ref sig .tc := ⟨.hbm, 54, rfl⟩
abbrev main_call1_v0 : Ref sig .tc := ⟨.hbm, 55, rfl⟩
abbrev main_call1_cst : Ref sig .tc := ⟨.hbm, 56, rfl⟩
abbrev main_call1_v1 : Ref sig .tc := ⟨.hbm, 57, rfl⟩
abbrev main_call1_v2 : Ref sig .tc := ⟨.hbm, 58, rfl⟩
abbrev main_call1_cst_0 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_cst_1 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_c_6 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_c_7 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_c_8 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_c_9 : Ref sig .tc := ⟨.hbm, 106, rfl⟩
abbrev main_v57 : Ref sig .tc := ⟨.hbm, 107, rfl⟩
abbrev main_v58 : Ref sig .tc := ⟨.hbm, 108, rfl⟩
abbrev main_c_10 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_c_11 : Ref sig .tc := ⟨.hbm, 115, rfl⟩
abbrev main_v64 : Ref sig .tc := ⟨.hbm, 116, rfl⟩
abbrev main_v65 : Ref sig .tc := ⟨.hbm, 117, rfl⟩
abbrev main_c_12 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_13 : Ref sig .tc := ⟨.hbm, 125, rfl⟩
abbrev main_v72 : Ref sig .tc := ⟨.hbm, 126, rfl⟩
abbrev main_cst_14 : Ref sig .tc := ⟨.hbm, 127, rfl⟩
abbrev main_v73 : Ref sig .tc := ⟨.hbm, 128, rfl⟩
abbrev main_call2_v0 : Ref sig .tc := ⟨.hbm, 129, rfl⟩
abbrev main_call2_cst : Ref sig .tc := ⟨.hbm, 130, rfl⟩
abbrev main_call2_v1 : Ref sig .tc := ⟨.hbm, 131, rfl⟩
abbrev main_call2_v2 : Ref sig .tc := ⟨.hbm, 132, rfl⟩
abbrev main_call2_cst_0 : Ref sig .tc := ⟨.hbm, 133, rfl⟩
abbrev main_call2_v3 : Ref sig .tc := ⟨.hbm, 134, rfl⟩
abbrev main_call2_v4 : Ref sig .tc := ⟨.hbm, 135, rfl⟩
abbrev main_call2_v5 : Ref sig .tc := ⟨.hbm, 136, rfl⟩
abbrev main_call2_cst_1 : Ref sig .tc := ⟨.hbm, 137, rfl⟩
abbrev main_call2_v6 : Ref sig .tc := ⟨.hbm, 138, rfl⟩
abbrev main_call2_v7 : Ref sig .tc := ⟨.hbm, 139, rfl⟩
abbrev main_call2_v8 : Ref sig .tc := ⟨.hbm, 140, rfl⟩
abbrev main_call2_v9 : Ref sig .tc := ⟨.hbm, 141, rfl⟩
abbrev main_call2_v10 : Ref sig .tc := ⟨.hbm, 142, rfl⟩
abbrev main_call2_v11 : Ref sig .tc := ⟨.hbm, 143, rfl⟩
abbrev main_call2_v12 : Ref sig .tc := ⟨.hbm, 144, rfl⟩
abbrev main_call2_v13 : Ref sig .tc := ⟨.hbm, 145, rfl⟩
abbrev main_call2_v14 : Ref sig .tc := ⟨.hbm, 146, rfl⟩
abbrev main_v74 : Ref sig .tc := ⟨.hbm, 147, rfl⟩
abbrev main_cst_15 : Ref sig .tc := ⟨.hbm, 148, rfl⟩
abbrev main_v75 : Ref sig .tc := ⟨.hbm, 149, rfl⟩
abbrev main_cst_16 : Ref sig .tc := ⟨.hbm, 150, rfl⟩
abbrev main_v76 : Ref sig .tc := ⟨.hbm, 151, rfl⟩
abbrev main_call3_v0 : Ref sig .tc := ⟨.hbm, 152, rfl⟩
abbrev main_call3_cst : Ref sig .tc := ⟨.hbm, 153, rfl⟩
abbrev main_call3_v1 : Ref sig .tc := ⟨.hbm, 154, rfl⟩
abbrev main_call3_v2 : Ref sig .tc := ⟨.hbm, 155, rfl⟩
abbrev main_call3_cst_0 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_cst_1 : Ref sig .tc := ⟨.hbm, 160, rfl⟩
abbrev main_call3_v6 : Ref sig .tc := ⟨.hbm, 161, rfl⟩
abbrev main_call3_v7 : Ref sig .tc := ⟨.hbm, 162, rfl⟩
abbrev main_call3_v8 : Ref sig .tc := ⟨.hbm, 163, rfl⟩
abbrev main_call3_v9 : Ref sig .tc := ⟨.hbm, 164, rfl⟩
abbrev main_call3_v10 : Ref sig .tc := ⟨.hbm, 165, rfl⟩
abbrev main_call3_v11 : Ref sig .tc := ⟨.hbm, 166, rfl⟩
abbrev main_call3_v12 : Ref sig .tc := ⟨.hbm, 167, rfl⟩
abbrev main_call3_v13 : Ref sig .tc := ⟨.hbm, 168, rfl⟩
abbrev main_call3_v14 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_c_17 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_c_18 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_c_19 : Ref sig .tc := ⟨.hbm, 193, rfl⟩
abbrev main_v98 : Ref sig .tc := ⟨.hbm, 194, rfl⟩
abbrev main_v99 : Ref sig .tc := ⟨.hbm, 195, rfl⟩
abbrev main_cst_20 : Ref sig .tc := ⟨.hbm, 196, rfl⟩
abbrev main_cst_21 : Ref sig .tc := ⟨.hbm, 197, rfl⟩
abbrev main_v100 : Ref sig .tc := ⟨.hbm, 198, rfl⟩
abbrev main_cst_22 : Ref sig .tc := ⟨.hbm, 199, rfl⟩
abbrev main_v101 : Ref sig .tc := ⟨.hbm, 200, rfl⟩
abbrev main_cst_23 : Ref sig .tc := ⟨.hbm, 201, rfl⟩
abbrev main_cst_24 : Ref sig .tc := ⟨.hbm, 202, rfl⟩
abbrev main_v102 : Ref sig .tc := ⟨.hbm, 203, rfl⟩
abbrev main_v103 : Ref sig .tc := ⟨.hbm, 204, rfl⟩
abbrev main_cst_25 : Ref sig .tc := ⟨.hbm, 205, rfl⟩
abbrev main_cst_26 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_cst_27 : Ref sig .tc := ⟨.hbm, 213, rfl⟩
abbrev main_v110 : Ref sig .tc := ⟨.hbm, 214, rfl⟩
abbrev main_cst_28 : Ref sig .tc := ⟨.hbm, 215, rfl⟩
abbrev main_v111 : Ref sig .tc := ⟨.hbm, 216, rfl⟩
abbrev main_v112 : Ref sig .tc := ⟨.hbm, 217, rfl⟩
abbrev main_cst_29 : Ref sig .tc := ⟨.hbm, 218, rfl⟩
abbrev main_v113 : Ref sig .tc := ⟨.hbm, 219, rfl⟩
abbrev main_cst_30 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩

abbrev nD : Nat := 1
abbrev τ : Topo := Topo.v7x

variable {F : FTy → Type} [FloatOps F]
-- ==== Proof.Lanes.lean ====
/-
  What the SparseCore call computes, as plain functions of its two arrays, over any float values: each of the 32 tiles
  reads its 32768 elements of an array as 2048 rows of 16 lanes and keeps, lane by lane, the running minimum and the
  running maximum; tile `w` writes those of the first array to rows `4w` and `4w + 1` of the statistics and those of the
  second to rows `4w + 2` and `4w + 3`. The file also says what a load of one row and a read of the four stored rows give.
-/
module

public import proofs.«01_k».proof.Defs
public import proofs.«01_k».proof.Proof.Gen.KernelIdeal
public import proofs.«01_k».proof.Proof.Gen.KernelIdeal.Skeleton
public import Idealize.ShloMosaic.Lib.ValueIdx
public import Idealize.ShloMosaic.Lib.ValueLayout
public import Idealize.ShloMosaic.Lib.Writes
public import Idealize.ShloMosaic.Lib.WritesUnit
public import Idealize.ShloMosaic.Lib.Pipeline.Value

@[expose] public section

noncomputable section

namespace Cert.Proof.Extremes

open Cert.KernelIdeal Cert.KernelIdeal.Gen
open Idealize.ShloMosaic Idealize.ShloMosaic.ValueIdx

variable {F : FTy → Type} [FloatOps F]

/-- Row `t` of chunk `w` of a flat array: lane `l` is element `32768 w + 16 t + l`. -/
def row (x : FVec F S1048576 .f32) (w t : ℕ) : FVec F S16 .f32 :=
  fun l => x (ix1 ⟨(32768 * w + 16 * t + (l 0).val) % 1048576, Nat.mod_lt _ (by decide)⟩)

/-- The lanewise minimum of +∞ and the first `t` rows of chunk `w`, taken in order. -/
def runMin (x : FVec F S1048576 .f32) (w : ℕ) : ℕ → FVec F S16 .f32
  | 0 => broadcast S16 (Scalar.ofBits .f32 0x7F800000#32)
  | t + 1 => minimumf (runMin x w t) (row x w t)

/-- The lanewise maximum of −∞ and the first `t` rows of chunk `w`, taken in order. -/
def runMax (x : FVec F S1048576 .f32) (w : ℕ) : ℕ → FVec F S16 .f32
  | 0 => broadcast S16 (Scalar.ofBits .f32 0xFF800000#32)
  | t + 1 => maximumf (runMax x w t) (row x w t)

/-- Row `k` of the four that tile `w` writes: minima and maxima of its chunk of `x`, then of `y`. -/
def statRow (x y : FVec F S1048576 .f32) (w k : ℕ) : FVec F S16 .f32 :=
  if k = 0 then runMin x w 2048 else if k = 1 then runMax x w 2048 else if k = 2 then runMin y w 2048 else runMax y w 2048

/-- The whole statistics array. -/
def stats (x y : FVec F S1048576 .f32) : FVec F S128x16 .f32 :=
  fun j => statRow x y ((j 0).val / 4) ((j 0).val % 4) (ix1 (j 1))

/-- The loops' trip counts. -/
theorem trips1 : k0_t1_loop.trips = 2048 := by decide +kernel
/-- The second loop makes 2048 trips. -/
theorem trips2 : k0_t2_loop.trips = 2048 := by decide +kernel

/-- A vector recast to its own shape is itself. -/
theorem recast16 (v : FVec F S16 .f32) (h : S16.ShapeCasts S16) : shapeCast S16 v h = v := by
  exact shapeCast_self v h

/-- The loops' starting values and steps are those of `runMin` and `runMax`. -/
theorem pay4_eq (a v : FVec F S16 .f32) : k0_pay4 a v = minimumf a v := by
  unfold k0_pay4 k0_pay3; rw [recast16]
/-- The first loop's second step is the lanewise maximum. -/
theorem pay5_eq (a v : FVec F S16 .f32) : k0_pay5 a v = maximumf a v := by
  unfold k0_pay5 k0_pay3; rw [recast16]
/-- The second loop's first step is the lanewise minimum. -/
theorem pay9_eq (a v : FVec F S16 .f32) : k0_pay9 a v = minimumf a v := by
  unfold k0_pay9 k0_pay8; rw [recast16]
/-- The second loop's second step is the lanewise maximum. -/
theorem pay10_eq (a v : FVec F S16 .f32) : k0_pay10 a v = maximumf a v := by
  unfold k0_pay10 k0_pay8; rw [recast16]

end Cert.Proof.Extremes

end
-- ==== Proof.Tile.lean ====
/-
  One tile's task: the fetch of its chunk of the first array into its scratch, the loop of 2048 row loads that leaves the
  lanewise extremes, the same for the second array, the four rows stored and copied to its block of the statistics, and,
  on tile 0 alone, the sixteen constants stored and copied out. Started from its chunks and its block of the two outputs,
  it ends with the chunks unchanged, the block holding `stats`, the constants (tile 0's) holding the kernel's vector, and
  every semaphore counter back at zero.
-/
module

public import proofs.«01_k».proof.Proof.Lanes
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Extremes

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up: labels, tables, variants, the ghost state -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions on its semaphores hold. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the tiles' parts of them -/

/-- The two inputs and the call's two outputs on device `d`. -/
abbrev aLoc (d : Dev nD) : Loc nD τ sig := (SparseCore.T d).loc main_arg0
abbrev bLoc (d : Dev nD) : Loc nD τ sig := (SparseCore.T d).loc main_arg1
abbrev tLoc (d : Dev nD) : Loc nD τ sig := (SparseCore.T d).loc main_v0_0
abbrev sLoc (d : Dev nD) : Loc nD τ sig := (SparseCore.T d).loc main_v0_1

local notation "aV" => (Memref.whole Cert.KernelIdeal.main_arg0_scv : Memref Cert.KernelIdeal.sig Kind.scVector Space.hbm Cert.KernelIdeal.S1048576 EltTy.f32)
local notation "bV" => (Memref.whole Cert.KernelIdeal.main_arg1_scv : Memref Cert.KernelIdeal.sig Kind.scVector Space.hbm Cert.KernelIdeal.S1048576 EltTy.f32)
local notation "tV" => (Memref.whole Cert.KernelIdeal.main_v0_0_scv : Memref Cert.KernelIdeal.sig Kind.scVector Space.hbm Cert.KernelIdeal.S16 EltTy.f32)
local notation "sV" => (Memref.whole Cert.KernelIdeal.main_v0_1_scv : Memref Cert.KernelIdeal.sig Kind.scVector Space.hbm Cert.KernelIdeal.S128x16 EltTy.f32)
local notation "xB" => (Memref.whole Cert.KernelIdeal.cc0_scratch0 : Memref Cert.KernelIdeal.sig Kind.scVector Space.vmem Cert.KernelIdeal.S32768 EltTy.f32)
local notation "tB" => (Memref.whole Cert.KernelIdeal.cc0_scratch1 : Memref Cert.KernelIdeal.sig Kind.scVector Space.vmem Cert.KernelIdeal.S16 EltTy.f32)
local notation "sB" => (Memref.whole Cert.KernelIdeal.cc0_scratch2 : Memref Cert.KernelIdeal.sig Kind.scVector Space.vmem Cert.KernelIdeal.S4x16 EltTy.f32)

/-- An input splits into 32 equal parts. -/
theorem adiv : 32 ∣ S1048576.size 0 := ⟨32768, rfl⟩
/-- So do the 128 rows of the statistics. -/
theorem sdiv : 32 ∣ S128x16.size 0 := ⟨4, rfl⟩
/-- Tile `w`'s chunk of an input, its block of the statistics, and its part of the constants (all of them for tile 0, none
    for the others). -/
abbrev chunk (w : Fin 32) : Finset S1048576.Idx := (Rect.part (s := S1048576) (a₀ := 0) adiv w).set
/-- The four rows of the statistics that tile `w` writes. -/
abbrev block (w : Fin 32) : Finset S128x16.Idx := (Rect.part (s := S128x16) (a₀ := 0) sdiv w).set
/-- The elements of the constants that tile `w` holds: all of them for tile 0, none for the others. -/
abbrev head (w : Fin 32) : Finset S16.Idx := if w = 0 then Finset.univ else ∅

variable (m : (ℓ : Loc nD τ sig) → Buf (Elt F) ℓ)

variable [FloatOps F]

/-- The sixteen constants that tile 0 stores. -/
abbrev consts : FVec F S16 .f32 := k0_pay15

/-- What tile `w` is handed: its chunks of the two inputs and its parts of the two outputs, as launched; -/
abbrev goPts (d : Dev nD) (w : Fin 32) : sProp 𝕄 :=
  iprop((aLoc d ↦[chunk w]{fullShare} m (aLoc d)) ∗ (bLoc d ↦[chunk w]{fullShare} m (bLoc d))
    ∗ (tLoc d ↦[head w]{fullShare} m (tLoc d)) ∗ sLoc d ↦[block w]{fullShare} m (sLoc d))
/-- and what it hands back: the chunks unchanged, its parts of the outputs computed. -/
abbrev tdPts (d : Dev nD) (w : Fin 32) : sProp 𝕄 :=
  iprop((aLoc d ↦[chunk w]{fullShare} m (aLoc d)) ∗ (bLoc d ↦[chunk w]{fullShare} m (bLoc d))
    ∗ (tLoc d ↦[head w]{fullShare} (consts (F := F) : Buf (Elt F) (tLoc d)))
    ∗ sLoc d ↦[block w]{fullShare} (stats (F := F) (m (aLoc d)) (m (bLoc d)) : Buf (Elt F) (sLoc d)))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] m in
/-- The SparseCore coordinate is below 2. -/
theorem lt0 : (L 0).val < 2 := (L 0).isLt
omit [FloatOps F] m in
/-- The tile coordinate is below 16. -/
theorem lt1 : (L 1).val < 16 := (L 1).isLt
/-- The tile's number: twice the subcore's plus the core's. -/
abbrev wL (L : grid0.Coords) : Fin 32 := ⟨2 * (L 1).val + (L 0).val, by have := lt0 L; have := lt1 L; omega⟩

abbrev chunkK (L : grid0.Coords) : Rect S1048576 := Rect.unit (s := S1048576) (k0_off1 L) S32768.size (k0_off1_inb L)
abbrev blockK (L : grid0.Coords) : Rect S128x16 := Rect.unit (s := S128x16) (k0_off4 L) S4x16.size (k0_off4_inb L)
/-- The chunks and the block as the task addresses them. -/
abbrev aK (L : grid0.Coords) : Memref sig .scVector .hbm S32768 .f32 := (aV).slice (chunkK L) (fun _ => rfl)
abbrev bK (L : grid0.Coords) : Memref sig .scVector .hbm S32768 .f32 := (bV).slice (chunkK L) (fun _ => rfl)
abbrev sK (L : grid0.Coords) : Memref sig .scVector .hbm S4x16 .f32 := (sV).slice (blockK L) (fun _ => rfl)

/-- The rectangle of the program's input copies is the tile's part of an input. -/
theorem chunkK_eq : chunkK L = Rect.part (s := S1048576) (a₀ := 0) adiv (wL L) := by
  unfold chunkK Rect.part Rect.block
  congr 1 <;> funext a
  · rw [k0_off1_eq]
    match a with
    | 0 => simp [Shape.partIx, Shape.partSize, wL]; omega
  · match a with
    | 0 => simp [Shape.partSize]
/-- The rectangle of the program's copy out is the tile's part of the statistics. -/
theorem blockK_eq : blockK L = Rect.part (s := S128x16) (a₀ := 0) sdiv (wL L) := by
  unfold blockK Rect.part Rect.block
  congr 1 <;> funext a
  · rw [k0_off4_eq]
    match a with
    | 0 => simp [Shape.partIx, Shape.partSize, wL]; omega
    | 1 => simp [Shape.partIx, Shape.partSize]
  · match a with
    | 0 => simp [Shape.partSize]
    | 1 => simp [Shape.partSize]

/-- The first copy reads the tile's chunk. -/
theorem set_aK : (aK L).view.set = chunk (wL L) := by
  show ((View.whole (main_arg0_scv : Ref sig .scVector)).slice (chunkK L)).set = _
  rw [View.set_slice, chunkK_eq]; exact Finset.map_refl
/-- The second copy reads the tile's chunk. -/
theorem set_bK : (bK L).view.set = chunk (wL L) := by
  show ((View.whole (main_arg1_scv : Ref sig .scVector)).slice (chunkK L)).set = _
  rw [View.set_slice, chunkK_eq]; exact Finset.map_refl
/-- The copy out writes the tile's block. -/
theorem set_sK : (sK L).view.set = block (wL L) := by
  show ((View.whole (main_v0_1_scv : Ref sig .scVector)).slice (blockK L)).set = _
  rw [View.set_slice, blockK_eq]; exact Finset.map_refl

/-- Holding the first input on the copied view is holding the chunk. -/
theorem pts_aK (f : Buf (Elt F) (aLoc d)) :
    ((aK L).view.loc (V d (cV L) (jV L)) ↦[(aK L).view.set]{fullShare} f : sProp 𝕄) = aLoc d ↦[chunk (wL L)]{fullShare} f := by
  rw [set_aK]
/-- Holding the second input on the copied view is holding the chunk. -/
theorem pts_bK (f : Buf (Elt F) (bLoc d)) :
    ((bK L).view.loc (V d (cV L) (jV L)) ↦[(bK L).view.set]{fullShare} f : sProp 𝕄) = bLoc d ↦[chunk (wL L)]{fullShare} f := by
  rw [set_bK]
/-- Holding the statistics on the written view is holding the block. -/
theorem pts_sK (f : Buf (Elt F) (sLoc d)) :
    ((sK L).view.loc (V d (cV L) (jV L)) ↦[(sK L).view.set]{fullShare} f : sProp 𝕄) = sLoc d ↦[block (wL L)]{fullShare} f := by
  rw [set_sK]
/-- Holding the constants on their whole view is holding the array. -/
theorem pts_tV (f : Buf (Elt F) (tLoc d)) :
    ((tV).view.loc (V d (cV L) (jV L)) ↦{fullShare} f : sProp 𝕄) = tLoc d ↦{fullShare} f := rfl
/-- Holding the chunk buffer on its whole view is holding the buffer. -/
theorem pts_xB (f : Buf (Elt F) ((V d (cV L) (jV L)).loc cc0_scratch0)) :
    ((xB).view.loc (V d (cV L) (jV L)) ↦{fullShare} f : sProp 𝕄) = (V d (cV L) (jV L)).loc cc0_scratch0 ↦{fullShare} f := rfl
/-- Holding the constants' buffer on its whole view is holding the buffer. -/
theorem pts_tB (f : Buf (Elt F) ((V d (cV L) (jV L)).loc cc0_scratch1)) :
    ((tB).view.loc (V d (cV L) (jV L)) ↦{fullShare} f : sProp 𝕄) = (V d (cV L) (jV L)).loc cc0_scratch1 ↦{fullShare} f := rfl
/-- Holding the statistics' buffer on its whole view is holding the buffer. -/
theorem pts_sB (f : Buf (Elt F) ((V d (cV L) (jV L)).loc cc0_scratch2)) :
    ((sB).view.loc (V d (cV L) (jV L)) ↦{fullShare} f : sProp 𝕄) = (V d (cV L) (jV L)).loc cc0_scratch2 ↦{fullShare} f := rfl

/-- The four copies' semaphore cells of a tile. -/
abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)

/-- A tile's own semaphores are those four and the rest. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase
              (cell3 d (cV L) (jV L))) fun g => semVal g 0) := by
  have hm : ∀ sm : SemLoc sig, sm.isScoped .scVector = true → ((V d (cV L) (jV L), sm) : GSem nD τ sig) ∈ ownCells (V d (cV L) (jV L)) :=
    fun sm h => mem_ownCells.mpr ⟨rfl, h⟩
  have hne : ∀ s s' : SemLoc sig, s ≠ s' → ((V d (cV L) (jV L), s) : GSem nD τ sig) ≠ (V d (cV L) (jV L), s') :=
    fun s s' h e => h (Prod.mk.inj e).2
  unfold SparseCore.Cfg.ownSems0
  rw [SparseCore.bigSep_erase' (hm (SemLoc.dma cc0_scoped0.sem) (by decide)),
    SparseCore.bigSep_erase' (Finset.mem_erase.mpr ⟨hne (SemLoc.dma cc0_scoped1.sem) _ (by decide), hm (SemLoc.dma cc0_scoped1.sem) (by decide)⟩),
    SparseCore.bigSep_erase' (Finset.mem_erase.mpr ⟨hne (SemLoc.dma cc0_scoped2.sem) _ (by decide),
      Finset.mem_erase.mpr ⟨hne (SemLoc.dma cc0_scoped2.sem) _ (by decide), hm (SemLoc.dma cc0_scoped2.sem) (by decide)⟩⟩),
    SparseCore.bigSep_erase' (Finset.mem_erase.mpr ⟨hne (SemLoc.dma cc0_scoped3.sem) _ (by decide),
      Finset.mem_erase.mpr ⟨hne (SemLoc.dma cc0_scoped3.sem) _ (by decide),
        Finset.mem_erase.mpr ⟨hne (SemLoc.dma cc0_scoped3.sem) _ (by decide), hm (SemLoc.dma cc0_scoped3.sem) (by decide)⟩⟩⟩)]

/-- A tile's own buffers are its three scratch buffers, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have hm : ∀ r : Ref sig .scVector, ((Proc.scVector (cV L) (jV L)).devRef r).owner = .proc (.scVector (cV L) (jV L)) →
      (Proc.scVector (cV L) (jV L)).devRef r ∈ ownRefs (τ := τ) (.scVector (cV L) (jV L)) :=
    fun r h => SparseCore.Cfg.mem_ownRefs_of_owner (p := Proc.scVector (cV L) (jV L)) (b := (Proc.scVector (cV L) (jV L)).devRef r) h
  have hne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (hm cc0_scratch0 rfl)).trans ?_
  rw [SparseCore.bigSep_erase' (Finset.mem_erase.mpr ⟨hne cc0_scratch1 cc0_scratch0 (by decide), hm cc0_scratch1 rfl⟩),
    SparseCore.bigSep_erase' (Finset.mem_erase.mpr ⟨hne cc0_scratch2 cc0_scratch1 (by decide),
      Finset.mem_erase.mpr ⟨hne cc0_scratch2 cc0_scratch0 (by decide), hm cc0_scratch2 rfl⟩⟩)]

end Tile

end Cert.Proof.Extremes

end
-- ==== Proof.Reads.lean ====
/-
  What a tile's loads and copies read and leave: the scratch after the fetch holds the chunk, a load of sixteen lanes at
  `16 t` is row `t`, the four stored rows read back, and the block copied out is `stats` there.
-/
module

public import proofs.«01_k».proof.Proof.Tile

@[expose] public section

noncomputable section

namespace Cert.Proof.Extremes

open Cert.KernelIdeal Cert.KernelIdeal.Gen
open Idealize.ShloMosaic Idealize.ShloMosaic.ValueIdx

variable {F : FTy → Type} [FloatOps F]

local notation "xB" => (Memref.whole Cert.KernelIdeal.cc0_scratch0 : Memref Cert.KernelIdeal.sig Kind.scVector Space.vmem Cert.KernelIdeal.S32768 EltTy.f32)
local notation "tV" => (Memref.whole Cert.KernelIdeal.main_v0_0_scv : Memref Cert.KernelIdeal.sig Kind.scVector Space.hbm Cert.KernelIdeal.S16 EltTy.f32)
local notation "tB" => (Memref.whole Cert.KernelIdeal.cc0_scratch1 : Memref Cert.KernelIdeal.sig Kind.scVector Space.vmem Cert.KernelIdeal.S16 EltTy.f32)
local notation "sB" => (Memref.whole Cert.KernelIdeal.cc0_scratch2 : Memref Cert.KernelIdeal.sig Kind.scVector Space.vmem Cert.KernelIdeal.S4x16 EltTy.f32)

/-- The scratch holds chunk `w` of `x`. -/
def holds (x : FVec F S1048576 .f32) (w : ℕ) (f : FVec F S32768 .f32) : Prop :=
  ∀ i, f i = x (ix1 ⟨(32768 * w + (i 0).val) % 1048576, Nat.mod_lt _ (by decide)⟩)

/-- Place `i` of tile `L`'s chunk, as the fetch addresses it, is place `32768 w + i` of the array. -/
theorem chunkK_emb (L : grid0.Coords) (i : S32768.Idx) :
    (chunkK L).emb i = ix1 ⟨(32768 * (wL L).val + (i 0).val) % 1048576, Nat.mod_lt _ (by decide)⟩ := by
  funext a
  match a with
  | 0 =>
    apply Fin.ext
    show k0_off1 L 0 + 1 * (i 0).val = (32768 * (2 * (L 1).val + (L 0).val) + (i 0).val) % 1048576
    have h0 := lt0 L
    have h1 := lt1 L
    have hi : (i 0).val < 32768 := (i 0).isLt
    rw [k0_off1_eq, Nat.mod_eq_of_lt (by omega)]
    show 65536 * (L 1).val + 32768 * (L 0).val + 1 * (i 0).val = _
    omega

/-- The whole scratch reads as its contents. -/
theorem read_xB (g : FVec F S32768 .f32) (i : S32768.Idx) : View.read (Elt F) (xB).view g i = g i := rfl

/-- After the fetch of the first array's chunk the scratch holds it, -/
theorem holds_a (L : grid0.Coords) (x : FVec F S1048576 .f32) (f : FVec F S32768 .f32) :
    holds x (wL L).val (View.write (Elt F) (xB).view f (View.read (Elt F) (aK L).view x) Finset.univ) := by
  intro i
  have h := congrFun (View.read_write_univ (Val := Elt F) (v := (xB).view) f (View.read (Elt F) (aK L).view x)) i
  have h' : View.read (Elt F) (aK L).view x i = x ((chunkK L).emb i) := rfl
  rw [h', chunkK_emb L i] at h
  exact (read_xB _ i).symm.trans h

/-- and after the fetch of the second's the second's. -/
theorem holds_b (L : grid0.Coords) (x : FVec F S1048576 .f32) (f : FVec F S32768 .f32) :
    holds x (wL L).val (View.write (Elt F) (xB).view f (View.read (Elt F) (bK L).view x) Finset.univ) := by
  intro i
  have h := congrFun (View.read_write_univ (Val := Elt F) (v := (xB).view) f (View.read (Elt F) (bK L).view x)) i
  have h' : View.read (Elt F) (bK L).view x i = x ((chunkK L).emb i) := rfl
  rw [h', chunkK_emb L i] at h
  exact (read_xB _ i).symm.trans h

/-- Sixteen lanes read at `16 t` of a scratch that holds the chunk are its row `t`. -/
theorem lanes_at {x : FVec F S1048576 .f32} {w : ℕ} {f : FVec F S32768 .f32} (h : holds x w f) (t : ℕ) {off : Fin 1 → ℕ}
    (ho : off = ![16 * t]) (inb : ∀ a, off a + S16.size a ≤ S32768.size a) :
    View.readAt (Elt F) (xB).view (Rect.unit (s := S32768) off S16.size inb).toLoadRect f = row x w t := by
  subst ho
  funext l
  refine (h _).trans (congrArg x ?_)
  refine congrArg ix1 (Fin.ext ?_)
  show (32768 * w + (16 * t + 1 * (l 0).val)) % 1048576 = (32768 * w + 16 * t + (l 0).val) % 1048576
  congr 1
  omega

/-- A load of the first loop gives the chunk's row. -/
theorem load1 {x : FVec F S1048576 .f32} {w : ℕ} {f : FVec F S32768 .f32} (h : holds x w f) (k : Fin k0_t1_loop.trips) :
    View.readAt (Elt F) (xB).view (Rect.unit (s := S32768) (k0_off2 k) S16.size (k0_off2_inb k)).toLoadRect f = row x w k.val :=
  lanes_at h k.val (k0_off2_eq k) _
/-- A load of the second loop gives the chunk's row. -/
theorem load2 {x : FVec F S1048576 .f32} {w : ℕ} {f : FVec F S32768 .f32} (h : holds x w f) (k : Fin k0_t2_loop.trips) :
    View.readAt (Elt F) (xB).view (Rect.unit (s := S32768) (k0_off3 k) S16.size (k0_off3_inb k)).toLoadRect f = row x w k.val :=
  lanes_at h k.val (k0_off3_eq k) _

/-- A row of lanes recast to one row of a block. -/
theorem asRow (v : FVec F S16 .f32) (j : S1x16.Idx) : shapeCast S1x16 v shapeCasts_S16_S1x16 j = v (ix1 (j 1)) := by
  refine (shapeCast_addUnit_apply ![16] v shapeCasts_S16_S1x16 j).trans (congrArg v ?_)
  funext a
  match a with
  | 0 => rfl

/-- The staging block after a store of one row of lanes: that row reads as the lanes, -/
theorem stored_hit (g : FVec F S4x16 .f32) (k : ℕ) (inb : ∀ a, (![k, 0] : Fin 2 → ℕ) a + S1x16.size a ≤ S4x16.size a) (v : FVec F S16 .f32)
    (Ls : List (View.Piece (Elt F) S4x16 .f32)) (r : S4x16.Idx) (h : (r 0).val = k) :
    View.read (Elt F) (sB).view ((sB).view.writes (Elt F) g
      (⟨Rect.unit (s := S4x16) ![k, 0] S1x16.size inb, shapeCast S1x16 v shapeCasts_S16_S1x16⟩ :: Ls)) r = v (ix1 (r 1)) :=
  (View.read_writes_cons_rows_of_mem (Val := Elt F) (d := ![4, 16]) (size := S1x16.size) (sB).view g inb
    (shapeCast S1x16 v shapeCasts_S16_S1x16) Ls r (ix2 0 (r 1)) (o := k) rfl h rfl).trans (asRow v _)

/-- and every other row as before. -/
theorem stored_miss (g : FVec F S4x16 .f32) (k : ℕ) (inb : ∀ a, (![k, 0] : Fin 2 → ℕ) a + S1x16.size a ≤ S4x16.size a) (p : FVec F S1x16 .f32)
    (Ls : List (View.Piece (Elt F) S4x16 .f32)) (r : S4x16.Idx) (h : (r 0).val ≠ k) :
    View.read (Elt F) (sB).view ((sB).view.writes (Elt F) g (⟨Rect.unit (s := S4x16) ![k, 0] S1x16.size inb, p⟩ :: Ls)) r
      = View.read (Elt F) (sB).view ((sB).view.writes (Elt F) g Ls) r :=
  View.read_writes_cons_rows_of_not_mem (Val := Elt F) (d := ![4, 16]) (size := S1x16.size) (sB).view g inb p Ls r
    (o := k) (W := 1) rfl rfl (by omega)

/-- The staging block after the four stores: row `k` is `statRow` `k`. -/
theorem staged (x y : FVec F S1048576 .f32) (w : ℕ) (g : FVec F S4x16 .f32) (r : S4x16.Idx) :
    View.read (Elt F) (sB).view ((sB).view.writes (Elt F) g
      [⟨Rect.unit (s := S4x16) ![3, 0] S1x16.size inb_S4x16_S1x16_3_0, k0_pay14 (runMax y w 2048)⟩,
        ⟨Rect.unit (s := S4x16) ![2, 0] S1x16.size inb_S4x16_S1x16_2_0, k0_pay13 (runMin y w 2048)⟩,
        ⟨Rect.unit (s := S4x16) ![1, 0] S1x16.size inb_S4x16_S1x16_1_0, k0_pay12 (runMax x w 2048)⟩,
        ⟨Rect.unit (s := S4x16) ![0, 0] S1x16.size inb_S4x16_S1x16_0_0, k0_pay11 (runMin x w 2048)⟩]) r
      = statRow x y w (r 0).val (ix1 (r 1)) := by
  have h4 : (r 0).val < 4 := (r 0).isLt
  rcases (show (r 0).val = 0 ∨ (r 0).val = 1 ∨ (r 0).val = 2 ∨ (r 0).val = 3 by omega) with h | h | h | h
  · refine (stored_miss g 3 _ _ _ r (by omega)).trans ((stored_miss g 2 _ _ _ r (by omega)).trans
      ((stored_miss g 1 _ _ _ r (by omega)).trans ((stored_hit g 0 _ (runMin x w 2048) _ r h).trans ?_)))
    simp [statRow, h]
  · refine (stored_miss g 3 _ _ _ r (by omega)).trans ((stored_miss g 2 _ _ _ r (by omega)).trans
      ((stored_hit g 1 _ (runMax x w 2048) _ r h).trans ?_))
    simp [statRow, h]
  · refine (stored_miss g 3 _ _ _ r (by omega)).trans ((stored_hit g 2 _ (runMin y w 2048) _ r h).trans ?_)
    simp [statRow, h]
  · refine (stored_hit g 3 _ (runMax y w 2048) _ r h).trans ?_
    simp [statRow, h]

/-- Tile `L`'s block of the statistics after the copy of a staging block that reads as `statRow`: it is `stats`. -/
theorem copied (L : grid0.Coords) (x y : FVec F S1048576 .f32) (g : FVec F S128x16 .f32) (p : FVec F S4x16 .f32)
    (hp : ∀ r : S4x16.Idx, p r = statRow x y (wL L).val (r 0).val (ix1 (r 1))) :
    ∀ i ∈ (sK L).view.set, (sK L).view.writes (Elt F) g [⟨Rect.whole S4x16, p⟩] i = stats x y i := by
  intro i hi
  obtain ⟨r, -, rfl⟩ := Finset.mem_map.mp hi
  refine (View.read_writes_cons_hit (Val := Elt F) (sK L).view g (Rect.whole S4x16) p [] r r
    ((Rect.whole S4x16).emb_eq_of_coords r r fun a => by
      show (r a).val = 0 + 1 * (r a).val; omega)).trans ?_
  rw [hp r]
  have h0 := lt0 L
  have h1 := lt1 L
  have hr : (r 0).val < 4 := (r 0).isLt
  have e0 : (((sK L).view.emb r : S128x16.Idx) 0).val = 4 * (wL L).val + (r 0).val := by
    show k0_off4 L 0 + 1 * (r 0).val = 4 * (2 * (L 1).val + (L 0).val) + (r 0).val
    rw [k0_off4_eq]
    show 8 * (L 1).val + 4 * (L 0).val + 1 * (r 0).val = _
    omega
  have e1 : ((sK L).view.emb r : S128x16.Idx) 1 = r 1 := Fin.ext (by
    show k0_off4 L 1 + 1 * (r 1).val = (r 1).val
    rw [k0_off4_eq]
    show 0 + 1 * (r 1).val = _
    omega)
  show _ = statRow x y ((((sK L).view.emb r : S128x16.Idx) 0).val / 4) ((((sK L).view.emb r : S128x16.Idx) 0).val % 4)
    (ix1 (((sK L).view.emb r : S128x16.Idx) 1))
  rw [e0, e1, show (4 * (wL L).val + (r 0).val) / 4 = (wL L).val by omega,
    show (4 * (wL L).val + (r 0).val) % 4 = (r 0).val by omega]

/-- The constants stored whole in their scratch and copied out whole are the output's contents. -/
theorem consts_copied (g h : FVec F S16 .f32) (inb : ∀ a, (![0] : Fin 1 → ℕ) a + S16.size a ≤ S16.size a) (p : FVec F S16 .f32) (i : S16.Idx) :
    View.write (Elt F) (tV).view g (View.read (Elt F) (tB).view
      ((tB).view.writes (Elt F) h [⟨Rect.unit (s := S16) ![0] S16.size inb, p⟩])) Finset.univ i = p i := by
  have e := congrFun (View.read_write_univ (Val := Elt F) (v := (tV).view) g (View.read (Elt F) (tB).view
      ((tB).view.writes (Elt F) h [⟨Rect.unit (s := S16) ![0] S16.size inb, p⟩]))) i
  have e' := View.read_writes_cons_unit_of_mem (Val := Elt F) (tB).view h (size := S16.size) inb p [] i i (off' := ![0]) rfl
    (fun a => by match a with | 0 => show (i 0).val = 0 + (i 0).val; omega)
  have r : ∀ k : FVec F S16 .f32, View.read (Elt F) (tV).view k i = k i := fun _ => rfl
  exact (r _).symm.trans (e.trans e')

end Cert.Proof.Extremes

end
-- ==== Proof.Task.lean ====
/-
  One tile's task, executed at a symbolic SparseCore and tile, over any float values: it copies its chunk of the first
  input into its buffer, runs the first loop by the invariant that the two carried vectors are the lanes' running minimum
  and maximum, does the same with the second input, writes the four vectors to its block of the statistics, and, if it is
  tile 0, the constants. `tile_body` says that it starts from the tile's parts of the four arrays (`goPts`) and ends with
  the same parts computed (`tdPts`), its buffers and its counters as it found them.
-/
module

public import proofs.«01_k».proof.Proof.Reads

@[expose] public section

noncomputable section

namespace Cert.Proof.Extremes

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "aV" => (Memref.whole Cert.KernelIdeal.main_arg0_scv : Memref Cert.KernelIdeal.sig Kind.scVector Space.hbm Cert.KernelIdeal.S1048576 EltTy.f32)
local notation "bV" => (Memref.whole Cert.KernelIdeal.main_arg1_scv : Memref Cert.KernelIdeal.sig Kind.scVector Space.hbm Cert.KernelIdeal.S1048576 EltTy.f32)
local notation "tV" => (Memref.whole Cert.KernelIdeal.main_v0_0_scv : Memref Cert.KernelIdeal.sig Kind.scVector Space.hbm Cert.KernelIdeal.S16 EltTy.f32)
local notation "sV" => (Memref.whole Cert.KernelIdeal.main_v0_1_scv : Memref Cert.KernelIdeal.sig Kind.scVector Space.hbm Cert.KernelIdeal.S128x16 EltTy.f32)
local notation "xB" => (Memref.whole Cert.KernelIdeal.cc0_scratch0 : Memref Cert.KernelIdeal.sig Kind.scVector Space.vmem Cert.KernelIdeal.S32768 EltTy.f32)
local notation "tB" => (Memref.whole Cert.KernelIdeal.cc0_scratch1 : Memref Cert.KernelIdeal.sig Kind.scVector Space.vmem Cert.KernelIdeal.S16 EltTy.f32)
local notation "sB" => (Memref.whole Cert.KernelIdeal.cc0_scratch2 : Memref Cert.KernelIdeal.sig Kind.scVector Space.vmem Cert.KernelIdeal.S4x16 EltTy.f32)

variable (m : (ℓ : Loc nD τ sig) → Buf (Elt F) ℓ) (d : Dev nD) (L : grid0.Coords)

/-- The printed test for the tile that writes the constants is that the tile's number is zero. -/
theorem first_iff :
    (Scalar.cmpi .ne (Scalar.extui (Scalar.cmpi .eq (Scalar.addi (Scalar.muli (BitVec.ofNat 32 (L 1).val) 2#32) (BitVec.ofNat 32 (L 0).val)) 0#32)) 0#32 : BitVec 1)
      = 1#1 ↔ wL L = 0 := by
  have key : ∀ (a : Fin 2) (b : Fin 16),
      (Scalar.cmpi .ne (Scalar.extui (Scalar.cmpi .eq (Scalar.addi (Scalar.muli (BitVec.ofNat 32 b.val) 2#32) (BitVec.ofNat 32 a.val)) 0#32)) 0#32 : BitVec 1)
        = 1#1 ↔ 2 * b.val + a.val = 0 := by decide +kernel
  refine (key ⟨(L 0).val, lt0 L⟩ ⟨(L 1).val, lt1 L⟩).trans ⟨fun h => Fin.ext h, fun h => congrArg Fin.val h⟩

/-- Before trip `t` of a loop over the chunk of `x`: the carried pair is the lanewise extremes of the first `t` rows, and the
    scratch holds what it held. -/
def inv (x : FVec F S1048576 .f32) (t : ℕ) (acc : FVec F S16 .f32 × FVec F S16 .f32) : sProp 𝕄 :=
  iprop(⌜acc = (runMin x (wL L).val t, runMax x (wL L).val t)⌝
    ∗ ∃ f, ⌜holds x (wL L).val f⌝ ∗ ((xB).view.loc (V d (cV L) (jV L)) ↦{fullShare} f))

/-- Tile 0's part of the constants' array is all of it: filled, it holds the constants; -/
theorem tV_done (hw : wL L = 0) (g : Buf (Elt F) (tLoc d)) (hg : ∀ i, g i = (consts (F := F) : Buf (Elt F) (tLoc d)) i) :
    ((tV).view.loc (V d (cV L) (jV L)) ↦{fullShare} g : sProp 𝕄)
      = (tLoc d ↦[head (wL L)]{fullShare} (consts (F := F) : Buf (Elt F) (tLoc d))) := by
  rw [head, if_pos hw, show g = (consts (F := F) : Buf (Elt F) (tLoc d)) from funext hg]
/-- every other tile's part is empty. -/
theorem head_none (w : Fin 32) (hw : ¬ w = 0) (f g : Buf (Elt F) (tLoc d)) :
    (tLoc d ↦[head w]{fullShare} f : sProp 𝕄) = (tLoc d ↦[head w]{fullShare} g) :=
  pointsTo_congr fun i hi => by rw [head, if_neg hw] at hi; exact absurd hi (Finset.notMem_empty i)

set_option maxHeartbeats 4000000 in
/-- The task of tile `L`, from its parts as launched to its parts computed. -/
theorem tile_body (hF : (K (F := F)).Facts) (O : CellTallies nD τ sig (HIx 1)) (W : Waits sig (HIx 1)) (hO : ∀ g, O g none = 0) :
    iprop(levAts (K (F := F)).L (K (F := F)).lev ∗ emp ∗ goPts m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__te_sc_kernel L aV (Memref.isWhole_whole _) bV (Memref.isWhole_whole _) tV (Memref.isWhole_whole _) sV (Memref.isWhole_whole _)
            xB (Memref.isWhole_whole _) tB (Memref.isWhole_whole _) sB (Memref.isWhole_whole _) cc0_scoped0 cc0_scoped1 cc0_scoped2 cc0_scoped3) fun _ =>
        iprop(tdPts m d (wL L) ∗ scopedBufs (V d (cV L) (jV L)) ∗ scopedSems0 (V d (cV L) (jV L))
          ∗ ∃ W', ⌜∀ p ∈ W', p ∈ W ∨ p.2 = none⌝ ∗ owes (V d (cV L) (jV L)) O W') := by
  simp only [cc0__te_sc_kernel_eq_skeleton]
  unfold cc0__te_sc_kernel_skel
  simp only [k0_part2_eq_skeleton]
  unfold k0_part2_skel
  simp only [k0_part1_eq_skeleton]
  rw [wp_bind, wp_bind]
  unfold k0_part1_skel
  rw [(K (F := F)).scopedBufs_V hF d (cV L) (jV L), SparseCore.Cfg.scopedSems0_V (Val := Elt F) d (cV L) (jV L), ownSems0_V, ownBufs_V]
  iintro ⟨#Hlv, -, ⟨Ha, Hb, Ht, Hs⟩, ⟨⟨%fx, Hx⟩, ⟨%ft, Htb⟩, ⟨%fs, Hsb⟩, Hbufs⟩, ⟨Hc0, Hc1, Hc2, Hc3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ha' := (Entails.of_eq (pts_aK (F := F) d L _).symm) $$ Ha
  ihave Hb' := (Entails.of_eq (pts_bK (F := F) d L _).symm) $$ Hb
  ihave Hs' := (Entails.of_eq (pts_sK (F := F) d L _).symm) $$ Hs
  ihave Hx' := (Entails.of_eq (pts_xB (F := F) d L _).symm) $$ Hx
  ihave Htb' := (Entails.of_eq (pts_tB (F := F) d L _).symm) $$ Htb
  ihave Hsb' := (Entails.of_eq (pts_sB (F := F) d L _).symm) $$ Hsb
  sl_exec
  sl_for (inv d L (m (aLoc d))) $$ [Hx']
  case region =>
    intro k acc
    unfold inv
    iintro ⟨%hacc, %f, %hf, Hx⟩
    subst hacc
    sl_exec
    sl_step
    isplitr
    · ipureintro; rw [load1 hf k, pay4_eq, pay5_eq]; rfl
    iexists f; isplitr
    · ipureintro; exact hf
    · iexact Hx
  · unfold inv
    isplitr
    · ipureintro; rfl
    iexists _; isplitr [Hx']; swap; · iexact Hx'
    ipureintro
    exact holds_a L (m (aLoc d)) _
  iintro %acc HI
  unfold inv
  icases HI with ⟨%hacc, %f, %hf, Hx⟩
  subst hacc
  sl_exec
  sl_for (inv d L (m (bLoc d))) $$ [Hx]
  case region =>
    intro k acc
    unfold inv
    iintro ⟨%hacc, %f, %hf, Hx⟩
    subst hacc
    sl_exec
    sl_step
    isplitr
    · ipureintro; rw [load2 hf k, pay9_eq, pay10_eq]; rfl
    iexists f; isplitr
    · ipureintro; exact hf
    · iexact Hx
  · unfold inv
    isplitr
    · ipureintro; rfl
    iexists _; isplitr [Hx]; swap; · iexact Hx
    ipureintro
    exact holds_b L (m (bLoc d)) _
  iintro %acc HI
  unfold inv
  icases HI with ⟨%hacc, %f', %hf', Hx⟩
  subst hacc
  sl_exec
  have hst : ∀ r : S4x16.Idx, tile_body.sl.dma8 m d L fs r
      = statRow (F := F) (m (aLoc d)) (m (bLoc d)) (wL L).val (r 0).val (ix1 (r 1)) :=
    staged (m (aLoc d)) (m (bLoc d)) (wL L).val fs
  split
  · rename_i hc
    have hw : wL L = 0 := (first_iff L).mp hc
    ihave Ht' := (Entails.of_eq (show (tLoc d ↦[head (wL L)]{fullShare} m (tLoc d) : sProp 𝕄) = ((tV).view.loc (V d (cV L) (jV L)) ↦{fullShare} m (tLoc d)) from by
      rw [head, if_pos hw])) $$ Ht
    sl_exec
    have hct : ∀ i, View.write (Elt F) (tV).view (m (tLoc d)) (tile_body.sl.dma2 d L ft) Finset.univ i = (consts (F := F) : Buf (Elt F) (tLoc d)) i :=
      consts_copied (m (tLoc d)) ft inb_S16_S16_0 k0_pay15
    sl_step
    isplitl [Ha' Hb' Ht' Hs']
    · isplitl [Ha']
      · iapply (Entails.of_eq (pts_aK (F := F) d L _)) $$ Ha'
      isplitl [Hb']
      · iapply (Entails.of_eq (pts_bK (F := F) d L _)) $$ Hb'
      isplitl [Ht']
      · iapply (Entails.of_eq (tV_done (F := F) d L hw _ hct)) $$ Ht'
      · iapply (Entails.of_eq ((pointsTo_congr (copied L _ _ _ _ hst)).trans (pts_sK (F := F) d L (stats (F := F) (m (aLoc d)) (m (bLoc d)))))) $$ Hs'
    isplitl [Hx Htb' Hsb' Hbufs]
    · isplitl [Hx]; · iexists _; iexact Hx
      isplitl [Htb']; · iexists _; iexact Htb'
      isplitl [Hsb']; · iexists _; iexact Hsb'
      iexact Hbufs
    isplitl [Hc0 Hc1 Hc2 Hc3 Hsems]
    · isplitl [Hc0]; · iexact Hc0
      isplitl [Hc1]; · iexact Hc1
      isplitl [Hc2]; · iexact Hc2
      isplitl [Hc3]; · iexact Hc3
      iexact Hsems
    iexists _; isplitr [HO]; swap; · iexact HO
    ipureintro; intro p hp
    simp only [Finset.mem_insert] at hp
    rcases hp with hp | hp | hp | hp | hp <;> first | exact .inl hp | exact .inr (hp ▸ rfl)
  · rename_i hc
    have hw : ¬ wL L = 0 := fun h => hc ((first_iff L).mpr h)
    sl_step
    sl_step
    isplitl [Ha' Hb' Ht Hs']
    · isplitl [Ha']
      · iapply (Entails.of_eq (pts_aK (F := F) d L _)) $$ Ha'
      isplitl [Hb']
      · iapply (Entails.of_eq (pts_bK (F := F) d L _)) $$ Hb'
      isplitl [Ht]
      · iapply (Entails.of_eq (head_none (F := F) d (wL L) hw _ _)) $$ Ht
      · iapply (Entails.of_eq ((pointsTo_congr (copied L _ _ _ _ hst)).trans (pts_sK (F := F) d L (stats (F := F) (m (aLoc d)) (m (bLoc d)))))) $$ Hs'
    isplitl [Hx Htb' Hsb' Hbufs]
    · isplitl [Hx]; · iexists _; iexact Hx
      isplitl [Htb']; · iexists _; iexact Htb'
      isplitl [Hsb']; · iexists _; iexact Hsb'
      iexact Hbufs
    isplitl [Hc0 Hc1 Hc2 Hc3 Hsems]
    · isplitl [Hc0]; · iexact Hc0
      isplitl [Hc1]; · iexact Hc1
      isplitl [Hc2]; · iexact Hc2
      isplitl [Hc3]; · iexact Hc3
      iexact Hsems
    iexists _; isplitr [HO]; swap; · iexact HO
    ipureintro; intro p hp
    simp only [Finset.mem_insert] at hp
    rcases hp with hp | hp | hp | hp <;> first | exact .inl hp | exact .inr (hp ▸ rfl)

end Cert.Proof.Extremes

end
-- ==== Proof.Launch.lean ====
/-
  The kernel program's run, over any float values: the one SparseCore call hands every tile its chunks of the two inputs
  and its parts of the two outputs and joins what the tiles hand back; @main's slice then takes the first four constants.
  Every run ends with the two inputs unchanged, the results at `teOut` and `stats`, and every semaphore counter back at
  zero.
-/
module

public import proofs.«01_k».proof.Proof.Task

@[expose] public section

noncomputable section

namespace Cert.Proof.Extremes

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the handshakes carry -/

/-- The number of tile `i` of SparseCore `c`. -/
def worker (c : Fin 2) (i : Fin 16) : Fin 32 := ⟨2 * i.val + c.val, by omega⟩

/-- The call hands a SparseCore its sixteen tiles' parts, and each tile its own; they come back computed. -/
def P : (K (F := F)).Pay (nD := nD) (Val := Elt F) (Name := ℕ) (U := UU) where
  st := fun q d c => match q with | 0 => bigSep Finset.univ fun i : Fin 16 => goPts m d (worker c i)
  dn := fun q d c => match q with | 0 => bigSep Finset.univ fun i : Fin 16 => tdPts m d (worker c i)
  go := fun q d c i => match q with | 0 => goPts m d (worker c i)
  td := fun q d c i => match q with | 0 => tdPts m d (worker c i)
  x := fun _ _ => iprop(emp)

/-- All that the handshakes carry can be stored. -/
instance P_storable : (P (F := F) m).IsStorable where
  st q d c := match q with
    | 0 => (inferInstance : BI.Storable (upEmb : UEmb _ 𝕄) (bigSep Finset.univ fun i : Fin 16 => goPts m d (worker c i)))
  dn q d c := match q with
    | 0 => (inferInstance : BI.Storable (upEmb : UEmb _ 𝕄) (bigSep Finset.univ fun i : Fin 16 => tdPts m d (worker c i)))
  go q d c i := match q with
    | 0 => (inferInstance : BI.Storable (upEmb : UEmb _ 𝕄) (goPts m d (worker c i)))
  td q d c i := match q with
    | 0 => (inferInstance : BI.Storable (upEmb : UEmb _ 𝕄) (tdPts m d (worker c i)))

/-- A SparseCore's operands are its tiles' as they stand, and so are its results. -/
theorem vecSplit : (K (F := F)).VecSplit' (P m) 0 := by
  intro d c
  show (bigSep Finset.univ fun i : Fin 16 => goPts m d (worker c i)) ⊢ |={Set.univ}=> iprop(
      (bigSep Finset.univ fun i : Fin 16 => goPts m d (worker c i))
      ∗ ((bigSep Finset.univ fun i : Fin 16 => tdPts m d (worker c i)) -∗ bigSep Finset.univ fun i : Fin 16 => tdPts m d (worker c i)))
  iintro H; imodintro
  isplitl [H]; · iexact H
  iintro H; iexact H

/-! ## The task's obligation -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs is the kernel body at its coordinates. -/
theorem defs₀_vector (c : Fin τ.nSC) (s : Fin τ.nSub) :
    defs₀ (F := F) (.scVector c s) 0 ()
      = SparseCore.onTile hcore0 hsub0 (fun c s => cc0__te_sc_kernel (coordsV c s)
          (Memref.whole main_arg0_scv) (Memref.isWhole_whole _) (Memref.whole main_arg1_scv) (Memref.isWhole_whole _)
          (Memref.whole main_v0_0_scv) (Memref.isWhole_whole _) (Memref.whole main_v0_1_scv) (Memref.isWhole_whole _)
          (Memref.whole cc0_scratch0) (Memref.isWhole_whole _) (Memref.whole cc0_scratch1) (Memref.isWhole_whole _)
          (Memref.whole cc0_scratch2) (Memref.isWhole_whole _) cc0_scoped0 cc0_scoped1 cc0_scoped2 cc0_scoped3) ⟨⟩ c s := rfl

omit [FloatOps F] in
/-- Waits on no call are among the waits that the obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task meets the launch's obligation. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

/-! ## The arrays split into the tiles' parts and join again -/

omit [FloatOps F] in
/-- A separating conjunction over the 32 tiles is one over the SparseCores of one over their tiles. -/
theorem tiles_eq (Φ : Fin 32 → sProp 𝕄) :
    bigSep Finset.univ Φ = bigSep Finset.univ fun c : Fin 2 => bigSep Finset.univ fun i : Fin 16 => Φ (worker c i) := by
  rw [bigSep_univ_equiv (finProdFinEquiv : Fin 16 × Fin 2 ≃ Fin 32) Φ, bigSep_univ_prod, bigSep_univ_comm]
  exact bigSep_congr fun c _ => bigSep_congr fun i _ => congrArg Φ (Fin.ext (Nat.add_comm _ _))

/-- Different tiles have disjoint chunks. -/
theorem chunks_disjoint : ∀ v ∈ (Finset.univ : Finset (Fin 32)), ∀ w ∈ (Finset.univ : Finset (Fin 32)), v ≠ w → Disjoint (chunk v) (chunk w) :=
  fun _ _ _ _ h => Rect.part_disjoint adiv h
/-- The chunks are the whole input. -/
theorem chunks_cover : (Finset.univ : Finset (Fin 32)).biUnion chunk = Finset.univ := Rect.biUnion_part adiv
/-- Different tiles have disjoint blocks. -/
theorem blocks_disjoint : ∀ v ∈ (Finset.univ : Finset (Fin 32)), ∀ w ∈ (Finset.univ : Finset (Fin 32)), v ≠ w → Disjoint (block v) (block w) :=
  fun _ _ _ _ h => Rect.part_disjoint sdiv h
/-- The blocks are the whole of the statistics. -/
theorem blocks_cover : (Finset.univ : Finset (Fin 32)).biUnion block = Finset.univ := Rect.biUnion_part sdiv
/-- Different tiles' parts of the constants are disjoint. -/
theorem heads_disjoint : ∀ v ∈ (Finset.univ : Finset (Fin 32)), ∀ w ∈ (Finset.univ : Finset (Fin 32)), v ≠ w → Disjoint (head v) (head w) := by
  intro v _ w _ h
  by_cases hv : v = 0
  · rw [show head w = ∅ from if_neg fun hw => h (hv.trans hw.symm)]; exact Finset.disjoint_empty_right _
  · rw [show head v = ∅ from if_neg hv]; exact Finset.disjoint_empty_left _
/-- Those parts are the whole array of constants. -/
theorem heads_cover : (Finset.univ : Finset (Fin 32)).biUnion head = Finset.univ :=
  Finset.eq_univ_iff_forall.mpr fun i => Finset.mem_biUnion.mpr ⟨0, Finset.mem_univ _, by rw [head, if_pos rfl]; exact Finset.mem_univ i⟩

omit [FloatOps F] in
/-- The first input held whole is its 32 chunks. -/
theorem a_parts (d : Dev nD) (f : Buf (Elt F) (aLoc d)) :
    (aLoc d ↦{fullShare} f : sProp 𝕄) = bigSep Finset.univ fun w : Fin 32 => aLoc d ↦[chunk w]{fullShare} f := by
  rw [← pointsTo_biUnion Finset.univ (ℓ := aLoc d) chunk chunks_disjoint, chunks_cover]; try rfl
omit [FloatOps F] in
/-- The second input held whole is its 32 chunks. -/
theorem b_parts (d : Dev nD) (f : Buf (Elt F) (bLoc d)) :
    (bLoc d ↦{fullShare} f : sProp 𝕄) = bigSep Finset.univ fun w : Fin 32 => bLoc d ↦[chunk w]{fullShare} f := by
  rw [← pointsTo_biUnion Finset.univ (ℓ := bLoc d) chunk chunks_disjoint, chunks_cover]; try rfl
omit [FloatOps F] in
/-- The array of constants held whole is the tiles' parts of it. -/
theorem t_parts (d : Dev nD) (f : Buf (Elt F) (tLoc d)) :
    (tLoc d ↦{fullShare} f : sProp 𝕄) = bigSep Finset.univ fun w : Fin 32 => tLoc d ↦[head w]{fullShare} f := by
  rw [← pointsTo_biUnion Finset.univ (ℓ := tLoc d) head heads_disjoint, heads_cover]; try rfl
omit [FloatOps F] in
/-- The statistics held whole are their 32 blocks. -/
theorem s_parts (d : Dev nD) (f : Buf (Elt F) (sLoc d)) :
    (sLoc d ↦{fullShare} f : sProp 𝕄) = bigSep Finset.univ fun w : Fin 32 => sLoc d ↦[block w]{fullShare} f := by
  rw [← pointsTo_biUnion Finset.univ (ℓ := sLoc d) block blocks_disjoint, blocks_cover]; try rfl

omit [FloatOps F] in
/-- The four whole arrays are the tiles' parts of them. -/
theorem arrays_eq (d : Dev nD) (fa : Buf (Elt F) (aLoc d)) (fb : Buf (Elt F) (bLoc d)) (ft : Buf (Elt F) (tLoc d)) (fs : Buf (Elt F) (sLoc d)) :
    (bigSep Finset.univ fun c : Fin 2 => bigSep Finset.univ fun i : Fin 16 =>
        iprop((aLoc d ↦[chunk (worker c i)]{fullShare} fa) ∗ (bLoc d ↦[chunk (worker c i)]{fullShare} fb)
          ∗ (tLoc d ↦[head (worker c i)]{fullShare} ft) ∗ sLoc d ↦[block (worker c i)]{fullShare} fs))
      = (iprop((aLoc d ↦{fullShare} fa) ∗ (bLoc d ↦{fullShare} fb) ∗ (tLoc d ↦{fullShare} ft) ∗ sLoc d ↦{fullShare} fs) : sProp 𝕄) := by
  rw [← tiles_eq (F := F) (fun w => iprop((aLoc d ↦[chunk w]{fullShare} fa) ∗ (bLoc d ↦[chunk w]{fullShare} fb)
          ∗ (tLoc d ↦[head w]{fullShare} ft) ∗ sLoc d ↦[block w]{fullShare} fs)),
    bigSep_sep', bigSep_sep', bigSep_sep', a_parts, b_parts, t_parts, s_parts]

/-- What the call hands out is the four arrays as launched. -/
theorem st0_eq (d : Dev nD) : (bigSep Finset.univ fun c : Fin ((K (F := F)).nCore 0) => (P m).st 0 d c)
    = iprop((aLoc d ↦{fullShare} m (aLoc d)) ∗ (bLoc d ↦{fullShare} m (bLoc d)) ∗ (tLoc d ↦{fullShare} m (tLoc d)) ∗ sLoc d ↦{fullShare} m (sLoc d)) :=
  arrays_eq d _ _ _ _
/-- What comes back is the inputs as launched, the constants and the statistics. -/
theorem dn0_eq (d : Dev nD) : (bigSep Finset.univ fun c : Fin ((K (F := F)).nCore 0) => (P m).dn 0 d c)
    = iprop((aLoc d ↦{fullShare} m (aLoc d)) ∗ (bLoc d ↦{fullShare} m (bLoc d))
        ∗ (tLoc d ↦{fullShare} (consts (F := F) : Buf (Elt F) (tLoc d)))
        ∗ sLoc d ↦{fullShare} (stats (F := F) (m (aLoc d)) (m (bLoc d)) : Buf (Elt F) (sLoc d))) :=
  arrays_eq d _ _ _ _

/-! ## The launch element of the certificate's ghost state -/

/-- The handshakes' initial cells and tokens. -/
def u₀ : UU := (initOf (K (F := F)).hsCells (K (F := F)).hsToks, 1)

omit [FloatOps F] in
/-- Nothing, any number of times, is nothing. -/
theorem bigSep_emp' {I : Type} (s : Finset I) : (bigSep s fun _ => iprop(emp)) = (iprop(emp) : sProp 𝕄) := bigSep_emp_const s

/-- The launch element gives the handshakes their cells, and nothing else is asked for. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The first result's array: the first four constants are sliced into it. -/
abbrev rLoc (d : Dev nD) : Loc nD τ sig := (SparseCore.T d).loc main_v1
/-- The first result: the first four of the constants. -/
def teOut : FVec F S4 .f32 := extractStridedSlice S4 ![0] (consts (F := F)) slices_S16_S4_0

abbrev t' : DevRef τ sig := Proc.devRef .tc (main_v0_0 : Ref sig .tc)
abbrev r' : DevRef τ sig := Proc.devRef .tc (main_v1 : Ref sig .tc)
abbrev opSlice : HloOp τ sig (Elt F) :=
  StableHlo.unary main_v0_0 main_v1 ((extractStridedSlice S4 ![0] · slices_S16_S4_0) : (⟨S16, .f32⟩ : BufTy).Contents (Elt F) → (⟨S4, .f32⟩ : BufTy).Contents (Elt F))
/-- The two arrays the slice touches. -/
abbrev S2 : Finset (DevRef τ sig) := {t', r'}
/-- After the call: the constants in their array. -/
def V1 (d : Dev nD) : Valuation τ sig (Elt F) :=
  Function.update (fun b => m (d, b)) t' (consts (F := F) : Buf (Elt F) (tLoc d))

omit [FloatOps F] in
/-- Holding the two arrays is holding each. -/
theorem held_S2 (d : Dev nD) (W : Valuation τ sig (Elt F)) :
    (held (T d) S2 W : sProp 𝕄) = iprop((tLoc d ↦{fullShare} W t') ∗ rLoc d ↦{fullShare} W r') := by
  unfold held S2
  rw [SparseCore.bigSep_insert' (by decide), bigSep_singleton]

/-- The constants are in their array after the call. -/
theorem V1_t (d : Dev nD) : V1 m d t' = (consts (F := F) : Buf (Elt F) (tLoc d)) := Function.update_self _ _ _
/-- The first result is still as launched after the call. -/
theorem V1_r (d : Dev nD) : V1 m d r' = m (rLoc d) := Function.update_of_ne (show r' ≠ t' by decide) _ _
omit [FloatOps F] in
/-- Equal vectors have equal slices. -/
theorem slice_congr {v w : FVec F S16 .f32} (h : v = w) :
    extractStridedSlice S4 ![0] v slices_S16_S4_0 = extractStridedSlice S4 ![0] w slices_S16_S4_0 := by rw [h]
/-- The slice writes the first four constants. -/
theorem result_r (d : Dev nD) : (opSlice (F := F)).result (V1 m d) r' = (teOut (F := F) : Buf (Elt F) (rLoc d)) := by
  exact (StableHlo.unary_result main_v0_0 main_v1 _ _ _ (V1 m d)).trans (slice_congr (V1_t m d))

/-- The slice touches no other array. -/
theorem hSlice : (opSlice (F := F)).bufs ⊆ S2 := show ({t', r'} : Finset (DevRef τ sig)) ⊆ S2 by decide

omit [FloatOps F] in
/-- The TensorCore's arrays are these five. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (tLoc d ↦{fullShare} W main_v0_0)
      ∗ (sLoc d ↦{fullShare} W main_v0_1) ∗ rLoc d ↦{fullShare} W main_v1) := by
  unfold unscopedBufs
  rw [show (Finset.univ.filter fun b : Ref sig .tc => ¬ b.isScoped) = {main_arg0, main_arg1, main_v0_0, main_v0_1, main_v1} by decide,
    SparseCore.bigSep_insert' (by decide), SparseCore.bigSep_insert' (by decide), SparseCore.bigSep_insert' (by decide),
    SparseCore.bigSep_insert' (by decide), bigSep_singleton]

/-- What @main leaves the claim: the inputs as launched and the two results computed. -/
abbrev FIN (d : Dev nD) : sProp 𝕄 :=
  iprop((aLoc d ↦{fullShare} m (aLoc d)) ∗ (bLoc d ↦{fullShare} m (bLoc d)) ∗ (rLoc d ↦{fullShare} (teOut (F := F) : Buf (Elt F) (rLoc d)))
    ∗ sLoc d ↦{fullShare} (stats (F := F) (m (aLoc d)) (m (bLoc d)) : Buf (Elt F) (sLoc d)))

/-- @main on device `d`'s TensorCore: the call, then the slice. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hbb, Ht, Hs, Hr⟩, Hts, -⟩, -⟩
  iapply ((K (F := F)).wp_run (D (F := F)) 𝒱 (EH := EH) (P := P m) κ d 0) $$ [Hst Ha Hbb Ht Hs Hr Hb Hts]
  isplitr; · iexact Hctx
  isplitl [Hst]; · iexact Hst
  isplitl [Ha Hbb Ht Hs]
  · rw [st0_eq]
    isplitl [Ha]; · iexact Ha
    isplitl [Hbb]; · iexact Hbb
    isplitl [Ht]; · iexact Ht
    iexact Hs
  iintro ⟨Hst, Hdn⟩
  ihave Hdn' := (Entails.of_eq (dn0_eq m d)) $$ Hdn
  icases Hdn' with ⟨Ha, Hbb, Ht, Hs⟩
  iapply (wp_hlo_within 𝒱 (SparseCore.T d) none Set.univ (op := opSlice) (S := S2) hSlice (V := V1 m d)) $$ [Hb Ht Hr]
  · isplitl [Hb]; · iexact Hb
    rw [held_S2, V1_t, V1_r]
    isplitl [Ht]; · iexact Ht
    iexact Hr
  iintro ⟨Hb, Hheld⟩
  ihave Hh := (Entails.of_eq (held_S2 (F := F) d _)) $$ Hheld
  icases Hh with ⟨-, Hr⟩
  rw [wp_ret]; imodintro; imodintro
  isplitl [Hst]; · iexact Hst
  isplitr [Hb Hts]
  · isplitl [Ha]; · iexact Ha
    isplitl [Hbb]; · iexact Hbb
    isplitl [Hr]; · rw [result_r]; iexact Hr
    iexact Hs
  isplitl [Hb] <;> iassumption

/-- The final memory's part of the claim, on device `d`. -/
def fq (d : Dev nD) (s' : Phys nD τ sig (Elt F)) : Prop :=
  s'.mem.mem (aLoc d) = m (aLoc d) ∧ s'.mem.mem (bLoc d) = m (bLoc d)
    ∧ s'.mem.mem (rLoc d) = (teOut (F := F) : Buf (Elt F) (rLoc d))
    ∧ s'.mem.mem (sLoc d) = (stats (F := F) (m (aLoc d)) (m (bLoc d)) : Buf (Elt F) (sLoc d))

set_option maxRecDepth 16384 in
/-- The arrays held at the end are the contents of the final memory. -/
theorem hfin (d : Dev nD) (s' : Phys nD τ sig (Elt F)) : iprop(FIN m d ∗ SI s') ⊢ (⌜fq m d s'⌝ : sProp 𝕄) := by
  iintro ⟨⟨Ha, Hb, Hr, Hs⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (persistent_entails_right (SI_pointsTo_agree (st := s') (ℓ := rLoc d) (I := Finset.univ) (q := fullShare)
    (f := (teOut (F := F) : Buf (Elt F) (rLoc d))))) $$ [HSI Hr]
  · isplitl [HSI] <;> iassumption
  icases H with ⟨%h3, HSI, -⟩
  ihave H := (SI_pointsTo_agree (st := s') (ℓ := sLoc d) (I := Finset.univ) (q := fullShare)
    (f := (stats (F := F) (m (aLoc d)) (m (bLoc d)) : Buf (Elt F) (sLoc d)))) $$ [HSI Hs]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The program's run -/

/-- What every run ends at: on every device the inputs unchanged and the results computed, and every counter at zero. -/
def QC : PUnit × MemSt nD τ sig (Elt F) → Prop := fun r =>
  (∀ d : Dev nD, r.2.mem (aLoc d) = m (aLoc d) ∧ r.2.mem (bLoc d) = m (bLoc d)
    ∧ r.2.mem (rLoc d) = (teOut (F := F) : Buf (Elt F) (rLoc d))
    ∧ r.2.mem (sLoc d) = (stats (F := F) (m (aLoc d)) (m (bLoc d)) : Buf (Elt F) (sLoc d))) ∧ r.2.sem = fun _ => 0

/-- Every run of the kernel program, from any launch memory, ends as `QC` says. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Extremes

end
-- ==== Proof.Values.lean ====
/-
  The kernel program's two results, at exact arithmetic, are the reference's: the four constants element by element, and
  each lane's running minimum and maximum over a chunk's 2048 rows as the reference's reduction over the middle axis of
  the array cut into 32 chunks of 2048 rows of 16.
-/
module

public import proofs.«01_k».proof.Proof.Launch
public import proofs.«01_k».proof.Proof.Gen.ReferenceIdeal
public import proofs.«01_k».proof.Proof.Gen.ReferenceIdeal.Run
public import Idealize.ShloMosaic.Lib.Pointwise.Reduce
public import Idealize.ShloMosaic.Lib.Pointwise

@[expose] public section

noncomputable section

namespace Cert.Proof.Extremes

open Cert.KernelIdeal.Gen Cert.ReferenceIdeal.Gen
open Idealize.ShloMosaic hiding ix1 ix2 ix3
open Idealize.ShloMosaic.ValueIdx

/-! ## A lane's running extremes are folds -/

/-- A fold over `Fin n` is what taking the elements one after another gives. -/
theorem fold_eq_steps {α : Type} (op : α → α → α) [Std.Commutative op] [Std.Associative op] (r g : ℕ → α)
    (hr : ∀ t, r (t + 1) = op (r t) (g t)) (n : ℕ) :
    (Finset.univ : Finset (Fin n)).fold op (r 0) (fun k => g k.val) = r n := by
  induction n with
  | zero => rfl
  | succ n ih =>
    rw [Fin.univ_castSuccEmb, Finset.fold_cons, Finset.fold_map, hr]
    exact (Std.Commutative.comm (op := op) _ _).trans (congrArg (fun a => op a (g n)) ih)

open Cert.ReferenceIdeal

/-- The flat array cut into 32 chunks of 2048 rows of 16, read at chunk `w`, row `t`, lane `l`. -/
theorem cut_apply (x : FVec Ideal S1048576 .f32) (w : Fin 32) (t : Fin 2048) (l : Fin 16) :
    shapeCast S32x2048x16 x shapeCasts_S1048576_S32x2048x16 (ix3 w t l) = row x w.val t.val (ix1 l) := by
  refine shapeCast_apply x _ _ _ ?_
  rw [Shape.rowMajor_val_one, Shape.rowMajor_val_three]
  show (32768 * w.val + 16 * t.val + l.val) % 1048576 = (w.val * 2048 + t.val) * 16 + l.val
  omega

/-- The reference's minimum over a chunk's rows is the running minimum after all of them. -/
theorem hostMin (x : FVec Ideal S1048576 .f32) (w : Fin 32) (l : Fin 16) :
    Host.reduce FloatOps.minimumf (shapeCast S32x2048x16 x shapeCasts_S1048576_S32x2048x16 : FVec Ideal S32x2048x16 .f32)
        (constant S_ .f32 0x7F800000#32) reducesTo_S32x2048x16_S32x16_d1 h_S_ (ix2 w l)
      = runMin x w.val 2048 (ix1 l) := by
  refine (Host.reduce_eq_fold _ _ _ _ _ _).trans ?_
  refine (Shape.ReducesTo.fold_fiber_r3_a1 reducesTo_S32x2048x16_S32x16_d1 (ix2 w l) _ _ _).trans ?_
  refine (Finset.fold_congr fun t _ => cut_apply x w t l).trans ?_
  exact fold_eq_steps (FloatOps.minimumf (F := Ideal) (φ := .f32)) (fun t => runMin x w.val t (ix1 l)) (fun t => row x w.val t (ix1 l)) (fun _ => rfl) 2048

/-- The same for the maximum. -/
theorem hostMax (x : FVec Ideal S1048576 .f32) (w : Fin 32) (l : Fin 16) :
    Host.reduce FloatOps.maximumf (shapeCast S32x2048x16 x shapeCasts_S1048576_S32x2048x16 : FVec Ideal S32x2048x16 .f32)
        (constant S_ .f32 0xFF800000#32) reducesTo_S32x2048x16_S32x16_d1 h_S_ (ix2 w l)
      = runMax x w.val 2048 (ix1 l) := by
  refine (Host.reduce_eq_fold _ _ _ _ _ _).trans ?_
  refine (Shape.ReducesTo.fold_fiber_r3_a1 reducesTo_S32x2048x16_S32x16_d1 (ix2 w l) _ _ _).trans ?_
  refine (Finset.fold_congr fun t _ => cut_apply x w t l).trans ?_
  exact fold_eq_steps (FloatOps.maximumf (F := Ideal) (φ := .f32)) (fun t => runMax x w.val t (ix1 l)) (fun t => row x w.val t (ix1 l)) (fun _ => rfl) 2048

/-! ## The statistics array -/

/-- A 32×16 array given a unit middle axis, read anywhere. -/
theorem lift_apply (v : FVec Ideal S32x16 .f32) (w : Fin 32) (z : Fin 1) (l : Fin 16) :
    broadcastInDim S32x1x16 ![0, 2] bcast_S32x16_S32x1x16_0_2 v (ix3 w z l) = v (ix2 w l) :=
  broadcastInDim_apply _ _ v _ _ fun a => by fin_cases a <;> rfl

/-- Four 32×1×16 arrays joined along the middle axis, read at `(w, k, l)`: the `k`-th at `(w, 0, l)`. -/
theorem stack_apply (u0 u1 u2 u3 : FVec Ideal S32x1x16 .f32) (w : Fin 32) (k : Fin 4) (l : Fin 16) :
    concatenate S32x4x16 1 [⟨S32x1x16, u0⟩, ⟨S32x1x16, u1⟩, ⟨S32x1x16, u2⟩, ⟨S32x1x16, u3⟩]
        concatenates_S32x1x16_S32x1x16_S32x1x16_S32x1x16_S32x4x16_d1 (ix3 w k l)
      = (![u0, u1, u2, u3] k) (ix3 w 0 l) := by
  refine concatenate_apply_piece (t := S32x4x16) 1 [⟨S32x1x16, u0⟩, ⟨S32x1x16, u1⟩, ⟨S32x1x16, u2⟩, ⟨S32x1x16, u3⟩] _ _ k.val k.isLt S32x1x16 (![u0, u1, u2, u3] k) ?_ rfl k.val ?_ _ ?_ ?_
  · fin_cases k <;> rfl
  · fin_cases k <;> rfl
  · intro b hb
    fin_cases b
    · rfl
    · exact absurd rfl hb
    · rfl
  · rfl

/-- So a join whose pieces' elements are `r 0 … r 3` reads as `r k`. -/
theorem stack_eq (u0 u1 u2 u3 : FVec Ideal S32x1x16 .f32) (w : Fin 32) (k : Fin 4) (l : Fin 16) (r : ℕ → Ideal .f32)
    (h0 : u0 (ix3 w 0 l) = r 0) (h1 : u1 (ix3 w 0 l) = r 1) (h2 : u2 (ix3 w 0 l) = r 2) (h3 : u3 (ix3 w 0 l) = r 3) :
    concatenate S32x4x16 1 [⟨S32x1x16, u0⟩, ⟨S32x1x16, u1⟩, ⟨S32x1x16, u2⟩, ⟨S32x1x16, u3⟩]
        concatenates_S32x1x16_S32x1x16_S32x1x16_S32x1x16_S32x4x16_d1 (ix3 w k l) = r k.val := by
  rw [stack_apply]
  fin_cases k
  · exact h0
  · exact h1
  · exact h2
  · exact h3

/-- The four rows of a tile's block. -/
theorem stat0 (x y : FVec Ideal S1048576 .f32) (w : ℕ) : statRow x y w 0 = runMin x w 2048 := by simp only [statRow, if_true, if_false, one_ne_zero, OfNat.ofNat_ne_zero, OfNat.ofNat_ne_one, Nat.reduceEqDiff]
/-- The second row. -/
theorem stat1 (x y : FVec Ideal S1048576 .f32) (w : ℕ) : statRow x y w 1 = runMax x w 2048 := by simp only [statRow, if_true, if_false, one_ne_zero, OfNat.ofNat_ne_zero, OfNat.ofNat_ne_one, Nat.reduceEqDiff]
/-- The third row. -/
theorem stat2 (x y : FVec Ideal S1048576 .f32) (w : ℕ) : statRow x y w 2 = runMin y w 2048 := by simp only [statRow, if_true, if_false, one_ne_zero, OfNat.ofNat_ne_zero, OfNat.ofNat_ne_one, Nat.reduceEqDiff]
/-- The fourth row. -/
theorem stat3 (x y : FVec Ideal S1048576 .f32) (w : ℕ) : statRow x y w 3 = runMax y w 2048 := by simp only [statRow, if_true, if_false, one_ne_zero, OfNat.ofNat_ne_zero, OfNat.ofNat_ne_one, Nat.reduceEqDiff]

/-- The reference's second result is the statistics array. -/
theorem stats_eq (x y : FVec Ideal S1048576 .f32) :
    shapeCast S128x16 (concatenate S32x4x16 1
        [⟨S32x1x16, broadcastInDim S32x1x16 ![0, 2] bcast_S32x16_S32x1x16_0_2 (Host.reduce FloatOps.minimumf (shapeCast S32x2048x16 x shapeCasts_S1048576_S32x2048x16 : FVec Ideal S32x2048x16 .f32) (constant S_ .f32 0x7F800000#32) reducesTo_S32x2048x16_S32x16_d1 h_S_)⟩,
         ⟨S32x1x16, broadcastInDim S32x1x16 ![0, 2] bcast_S32x16_S32x1x16_0_2 (Host.reduce FloatOps.maximumf (shapeCast S32x2048x16 x shapeCasts_S1048576_S32x2048x16 : FVec Ideal S32x2048x16 .f32) (constant S_ .f32 0xFF800000#32) reducesTo_S32x2048x16_S32x16_d1 h_S_)⟩,
         ⟨S32x1x16, broadcastInDim S32x1x16 ![0, 2] bcast_S32x16_S32x1x16_0_2 (Host.reduce FloatOps.minimumf (shapeCast S32x2048x16 y shapeCasts_S1048576_S32x2048x16 : FVec Ideal S32x2048x16 .f32) (constant S_ .f32 0x7F800000#32) reducesTo_S32x2048x16_S32x16_d1 h_S_)⟩,
         ⟨S32x1x16, broadcastInDim S32x1x16 ![0, 2] bcast_S32x16_S32x1x16_0_2 (Host.reduce FloatOps.maximumf (shapeCast S32x2048x16 y shapeCasts_S1048576_S32x2048x16 : FVec Ideal S32x2048x16 .f32) (constant S_ .f32 0xFF800000#32) reducesTo_S32x2048x16_S32x16_d1 h_S_)⟩]
        concatenates_S32x1x16_S32x1x16_S32x1x16_S32x1x16_S32x4x16_d1) shapeCasts_S32x4x16_S128x16
      = stats (F := Ideal) x y := by
  funext j
  obtain ⟨p, l, rfl⟩ : ∃ (p : Fin 128) (l : Fin 16), j = ix2 p l := ⟨j 0, j 1, funext fun a => by fin_cases a <;> rfl⟩
  have hw : p.val / 4 < 32 := by omega
  have hk : p.val % 4 < 4 := by omega
  refine (shapeCast_apply _ _ _ (ix3 ⟨p.val / 4, hw⟩ ⟨p.val % 4, hk⟩ l) ?_).trans ?_
  · rw [Shape.rowMajor_val_three, Shape.rowMajor_val_two]
    show (p.val / 4 * 4 + p.val % 4) * 16 + l.val = p.val * 16 + l.val
    omega
  refine stack_eq _ _ _ _ ⟨p.val / 4, hw⟩ ⟨p.val % 4, hk⟩ l (fun k => statRow x y (p.val / 4) k (ix1 l)) ?_ ?_ ?_ ?_
  · rw [lift_apply, stat0]; exact hostMin x ⟨p.val / 4, hw⟩ l
  · rw [lift_apply, stat1]; exact hostMax x ⟨p.val / 4, hw⟩ l
  · rw [lift_apply, stat2]; exact hostMin y ⟨p.val / 4, hw⟩ l
  · rw [lift_apply, stat3]; exact hostMax y ⟨p.val / 4, hw⟩ l

/-! ## The four constants -/

/-- Lane `i` of the constants. -/
theorem consts_apply (i : Fin 4) :
    teOut (F := Ideal) (ix1 i) = ![FloatOps.ofBits (F := Ideal) .f32 0x3DCCCCCD#32, FloatOps.ofBits (F := Ideal) .f32 0x3DCCCCCD#32,
      FloatOps.divf (FloatOps.subf (FloatOps.ofBits (F := Ideal) .f32 0x3DCCCCCD#32) (FloatOps.ofBits .f32 0x3DCCCCCD#32))
        (FloatOps.addf (FloatOps.addf (FloatOps.ofBits .f32 0x3DCCCCCD#32) (FloatOps.ofBits .f32 0x3DCCCCCD#32)) (FloatOps.ofBits .f32 0x2B8CBCCC#32)),
      FloatOps.addf (FloatOps.addf (FloatOps.ofBits .f32 0x3DCCCCCD#32) (FloatOps.ofBits .f32 0x3DCCCCCD#32)) (FloatOps.ofBits .f32 0x2B8CBCCC#32)] i := by
  unfold teOut consts Cert.KernelIdeal.Gen.k0_pay15
  dsimp only
  fin_cases i <;> rfl

/-- Four one-element vectors joined, read at `i`: the `i`-th one's element. -/
theorem join_apply (u0 u1 u2 u3 : FVec Ideal S1 .f32) (i : Fin 4) :
    concatenate S4 0 [⟨S1, u0⟩, ⟨S1, u1⟩, ⟨S1, u2⟩, ⟨S1, u3⟩] concatenates_S1_S1_S1_S1_S4_d0 (ix1 i)
      = (![u0, u1, u2, u3] i) (ix1 0) := by
  refine concatenate_apply_piece (t := S4) 0 [⟨S1, u0⟩, ⟨S1, u1⟩, ⟨S1, u2⟩, ⟨S1, u3⟩] _ _ i.val i.isLt S1 (![u0, u1, u2, u3] i) ?_ rfl i.val ?_ _ ?_ ?_
  · fin_cases i <;> rfl
  · fin_cases i <;> rfl
  · intro b hb
    fin_cases b
    exact absurd rfl hb
  · rfl

/-- The reference's first result is the first four of the kernel's constants. -/
theorem te_eq (V : Valuation τ sig (Elt Ideal)) :
    (concatenate S4 0 [⟨S1, (broadcastInDim S1 ![] bcast_S_S1 (constant S_ .f32 0x3DCCCCCD#32) : FVec Ideal S1 .f32)⟩,
        ⟨S1, (broadcastInDim S1 ![] bcast_S_S1 (constant S_ .f32 0x3DCCCCCD#32) : FVec Ideal S1 .f32)⟩,
        ⟨S1, (broadcastInDim S1 ![] bcast_S_S1 (Host.divf (subf (constant S_ .f32 0x3DCCCCCD#32) (constant S_ .f32 0x3DCCCCCD#32)) (Value.res_main_v101 V)) : FVec Ideal S1 .f32)⟩,
        ⟨S1, (broadcastInDim S1 ![] bcast_S_S1 (Value.res_main_v101 V) : FVec Ideal S1 .f32)⟩] concatenates_S1_S1_S1_S1_S4_d0 : FVec Ideal S4 .f32)
      = teOut (F := Ideal) := by
  funext j
  obtain ⟨i, rfl⟩ : ∃ i : Fin 4, j = ix1 i := ⟨j 0, funext fun a => by fin_cases a; rfl⟩
  refine (join_apply _ _ _ _ i).trans ((consts_apply i).trans ?_).symm
  match i with
  | 0 => rfl
  | 1 => rfl
  | 2 => rfl
  | 3 => rfl

end Cert.Proof.Extremes

end
-- ==== Proof.lean ====
/-
  The proof of `Cert.Claim` for the transfer-entropy kernel: both readings of the kernel program and the reference run to
  quiescence with their arguments unchanged, and at exact arithmetic the kernel program's two results are the reference's.
  Proof/Lanes.lean says what a tile computes, Proof/Tile.lean which elements it owns, Proof/Reads.lean what its copies and
  loads give, Proof/Task.lean runs one tile, Proof/Launch.lean the whole program, Proof/Values.lean compares the values.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Values
public import Idealize.ShloMosaic.Adequacy
public import Idealize.ShloMosaic.Init

@[expose] public section

noncomputable section

namespace Cert.Proof

open Idealize.ShloMosaic Idealize.SL.Sem Cert.Kernel

/-- The program as printed: its text is the idealized one's, run at the bit-exact instance. -/
theorem frame_kernel : Cert.quiescent_Kernel (hKernel := Cert.Kernel.Gen.facts) := fun m ρ _ =>
  (θ_run (Cert.KernelIdeal.defs (F := Bits)) _ _).mono (fun _ h => ⟨fun c => ⟨(h.1 c).1, (h.1 c).2.1⟩, h.2⟩)
    (Extremes.run_main (F := Bits) m ρ)

/-- The idealized program. -/
theorem frame_ideal : Cert.quiescent_KernelIdeal (hKernelIdeal := Cert.KernelIdeal.Gen.facts) := fun m ρ _ =>
  (θ_run (Cert.KernelIdeal.defs (F := Ideal)) _ _).mono (fun _ h => ⟨fun c => ⟨(h.1 c).1, (h.1 c).2.1⟩, h.2⟩)
    (Extremes.run_main (F := Ideal) m ρ)

/-- The reference: it declares no semaphore. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => ⟨(h c).2.2.1, (h c).2.2.2⟩, sem_eq_zero_of_no_sems (by decide) r.2⟩)
    (Cert.ReferenceIdeal.Value.run (F := Ideal) m ρ)

/-- The values: from memories that agree on the arguments, both programs end with the same two results. -/
theorem value : Cert.algebraic_KernelIdeal_ReferenceIdeal (hKernelIdeal := Cert.KernelIdeal.Gen.facts)
    (hReferenceIdeal := Cert.ReferenceIdeal.Gen.facts) := by
  intro m g m' g' _ hargs
  refine ⟨fun _ => Extremes.teOut (F := Ideal),
    fun c => Extremes.stats (F := Ideal) (m (Extremes.aLoc c)) (m (Extremes.bLoc c)), ?_, ?_⟩
  · exact (θ_run (Cert.KernelIdeal.defs (F := Ideal)) _ _).mono
      (fun _ h c => ⟨(h.1 c).2.2.1, (h.1 c).2.2.2, (h.1 c).1, (h.1 c).2.1⟩) (Extremes.run_main (F := Ideal) m g)
  · refine (θ_run (Cert.ReferenceIdeal.defs (F := Ideal)) _ _).mono
      (fun _ h c => ⟨(h c).1.trans (Extremes.te_eq _), (h c).2.1.trans ?_, (h c).2.2.1, (h c).2.2.2⟩)
      (Cert.ReferenceIdeal.Value.run (F := Ideal) m' g')
    exact (Extremes.stats_eq (m' ((c.tc : Thread _ Cert.ReferenceIdeal.τ).loc Cert.ReferenceIdeal.main_arg0))
      (m' ((c.tc : Thread _ Cert.ReferenceIdeal.τ).loc Cert.ReferenceIdeal.main_arg1))).trans
      (congrArg₂ (Extremes.stats (F := Ideal)) (hargs c).1 (hargs c).2)

theorem claim : Cert.Claim := ⟨Cert.Kernel.Gen.facts, Cert.KernelIdeal.Gen.facts, Cert.ReferenceIdeal.Gen.facts,
  frame_kernel, frame_ideal, frame_reference, trivial, value⟩

end Cert.Proof

end
